-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![2048, 512]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![2048, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S4x512 : Shape := ⟨2, ![4, 512]⟩
abbrev S2 : Shape := ⟨1, ![2]⟩
abbrev S_ : Shape := ⟨0, ![]⟩
abbrev S1 : Shape := ⟨1, ![1]⟩
abbrev S2x512 : Shape := ⟨2, ![2, 512]⟩
abbrev S510x512 : Shape := ⟨2, ![510, 512]⟩
abbrev S1x512 : Shape := ⟨2, ![1, 512]⟩

abbrev nBuf : Space → Nat
  | .hbm => 2
  | .vmem => 3
  | .smem => 0
  | _ => 0

abbrev bufTy : (tb : Table) → Fin (tcTables nBuf tb) → BufTy
  | .hbm, ⟨0, _⟩ => ⟨S512x512, .bf16⟩
  | .hbm, ⟨1, _⟩ => ⟨S512x512, .bf16⟩
  | .local _ .vmem, ⟨0, _⟩ => ⟨S512x512, .bf16⟩
  | .local _ .vmem, ⟨1, _⟩ => ⟨S512x512, .bf16⟩
  | .local _ .vmem, ⟨2, _⟩ => ⟨S4x512, .bf16⟩
  | _, _ => ⟨S512x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v3 : BitVec 1 := Scalar.cmpi .sgt v2 c0_i32
  let v10 : BitVec 32 := Scalar.extui v3
  let c0_i32_4 : BitVec 32 := 0#32
  let v11 : BitVec 1 := Scalar.cmpi .ne v10 c0_i32_4
  v11

def k0_dev1 (d0 : Dev nD) : Nat :=
  let c0_i32_38 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v5 : BitVec 32 := Scalar.subi v2 c1_i32_0
  let c0_i32_1 : BitVec 32 := 0#32
  let v6 : BitVec 32 := Scalar.maxsi v5 c0_i32_1
  let c1_i32_37 : BitVec 32 := 1#32
  let v51 : BitVec 32 := Scalar.muli v6 c1_i32_37
  let v52 : BitVec 32 := Scalar.addi c0_i32_38 v51
  v52.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v4 : BitVec 1 := Scalar.cmpi .slt v2 c3_i32
  let v12 : BitVec 32 := Scalar.extui v4
  let c0_i32_5 : BitVec 32 := 0#32
  let v13 : BitVec 1 := Scalar.cmpi .ne v12 c0_i32_5
  v13

def k0_dev2 (d0 : Dev nD) : Nat :=
  let c0_i32_38 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v7 : BitVec 32 := Scalar.addi v2 c1_i32_2
  let c3_i32_3 : BitVec 32 := 3#32
  let v8 : BitVec 32 := Scalar.minsi v7 c3_i32_3
  let c1_i32_37 : BitVec 32 := 1#32
  let v51 : BitVec 32 := Scalar.muli v8 c1_i32_37
  let v52 : BitVec 32 := Scalar.addi c0_i32_38 v51
  v52.toNat
def k0_cond5 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v4 : BitVec 1 := Scalar.cmpi .slt v2 c3_i32
  let v18 : BitVec 32 := Scalar.extui v4
  let c0_i32_10 : BitVec 32 := 0#32
  let v19 : BitVec 1 := Scalar.cmpi .ne v18 c0_i32_10
  v19

def k0_dev3 (d0 : Dev nD) : Nat :=
  let c0_i32_37 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v7 : BitVec 32 := Scalar.addi v2 c1_i32_2
  let c3_i32_3 : BitVec 32 := 3#32
  let v8 : BitVec 32 := Scalar.minsi v7 c3_i32_3
  let c1_i32_36 : BitVec 32 := 1#32
  let v51 : BitVec 32 := Scalar.muli v8 c1_i32_36
  let v52 : BitVec 32 := Scalar.addi c0_i32_37 v51
  v52.toNat
def k0_cond6 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v3 : BitVec 1 := Scalar.cmpi .sgt v2 c0_i32
  let v20 : BitVec 32 := Scalar.extui v3
  let c0_i32_13 : BitVec 32 := 0#32
  let v21 : BitVec 1 := Scalar.cmpi .ne v20 c0_i32_13
  v21

def k0_dev4 (d0 : Dev nD) : Nat :=
  let c0_i32_37 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v5 : BitVec 32 := Scalar.subi v2 c1_i32_0
  let c0_i32_1 : BitVec 32 := 0#32
  let v6 : BitVec 32 := Scalar.maxsi v5 c0_i32_1
  let c1_i32_36 : BitVec 32 := 1#32
  let v51 : BitVec 32 := Scalar.muli v6 c1_i32_36
  let v52 : BitVec 32 := Scalar.addi c0_i32_37 v51
  v52.toNat
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x512 : Shape := ⟨2, ![2048, 512]⟩
abbrev S2046x512 : Shape := ⟨2, ![2046, 512]⟩
abbrev S_ : Shape := ⟨0, ![]⟩
abbrev S1x512 : Shape := ⟨2, ![1, 512]⟩

abbrev nBuf : Space → Nat
  | .hbm => 18
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2046x512, .bf16⟩
  | .hbm, ⟨2, _⟩ => ⟨S_, .bf16⟩
  | .hbm, ⟨3, _⟩ => ⟨S2046x512, .bf16⟩
  | .hbm, ⟨4, _⟩ => ⟨S2046x512, .bf16⟩
  | .hbm, ⟨5, _⟩ => ⟨S2046x512, .bf16⟩
  | .hbm, ⟨6, _⟩ => ⟨S_, .bf16⟩
  | .hbm, ⟨7, _⟩ => ⟨S2046x512, .bf16⟩
  | .hbm, ⟨8, _⟩ => ⟨S2046x512, .bf16⟩
  | .hbm, ⟨9, _⟩ => ⟨S2046x512, .bf16⟩
  | .hbm, ⟨10, _⟩ => ⟨S2046x512, .bf16⟩
  | .hbm, ⟨11, _⟩ => ⟨S_, .bf16⟩
  | .hbm, ⟨12, _⟩ => ⟨S2046x512, .bf16⟩
  | .hbm, ⟨13, _⟩ => ⟨S2046x512, .bf16⟩
  | .hbm, ⟨14, _⟩ => ⟨S2046x512, .bf16⟩
  | .hbm, ⟨15, _⟩ => ⟨S1x512, .bf16⟩
  | .hbm, ⟨16, _⟩ => ⟨S1x512, .bf16⟩
  | .hbm, ⟨17, _⟩ => ⟨S2048x512, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Proof.Stencil.lean ====
/-
# The stencil: what each row of the result holds

The rows of the whole array are blended with their two neighbours; the first and the last row are copied.
Here are that rule on the whole array, the whole array glued from the four devices' blocks, and what the rule says of
one device's block: its inner rows read that block alone, its first row the last row of the block before it, its last
row the first row of the block after it.
-/
module

public import proofs.«01_k».proof.Proof.Gen.KernelIdeal
public import Idealize.ShloMosaic.Lib.Layout
public import Idealize.ShloMosaic.Lib.Pointwise

@[expose] public section

noncomputable section

namespace Cert.Stencil

open Cert.KernelIdeal
open Idealize.ShloMosaic

variable {F : FTy → Type} [FloatOps F]

/-- The whole array: four blocks of 512 rows. -/
abbrev S2048x512 : Shape := ⟨2, ![2048, 512]⟩

/-- The weights a quarter and a half, as the programs write them. -/
def quarter : F .bf16 := Scalar.ofBits .bf16 0x3E80#16
def half : F .bf16 := Scalar.ofBits .bf16 0x3F00#16

/-- A quarter of `a`, a half of `b` and a quarter of `c`, added from the left. -/
def blend (a b c : F .bf16) : F .bf16 :=
  FloatOps.addf (FloatOps.addf (FloatOps.mulf quarter a) (FloatOps.mulf half b)) (FloatOps.mulf quarter c)

/-- The index of row `r`, column `j` of an array of `n` rows and 512 columns. -/
def at2 {n : ℕ} (r : ℕ) (hr : r < n) (j : Fin 512) : (⟨2, ![n, 512]⟩ : Shape).Idx :=
  fun a => match a with | ⟨0, _⟩ => ⟨r, hr⟩ | ⟨1, _⟩ => j

/-- Two indices with the same row and the same column are the same. -/
theorem idx_ext {n : ℕ} {i j : (⟨2, ![n, 512]⟩ : Shape).Idx} (h0 : (i 0).val = (j 0).val) (h1 : (i 1).val = (j 1).val) : i = j := by
  funext a
  match a with
  | ⟨0, _⟩ => exact Fin.ext h0
  | ⟨1, _⟩ => exact Fin.ext h1

theorem row_lt {n : ℕ} (i : (⟨2, ![n, 512]⟩ : Shape).Idx) : (i 0).val < n := (i 0).isLt
theorem col_lt {n : ℕ} (i : (⟨2, ![n, 512]⟩ : Shape).Idx) : (i 1).val < 512 := (i 1).isLt

/-- The rule on the whole array: the first and the last row copied, every other row blended with its neighbours. -/
def stencil (G : S2048x512.Idx → F .bf16) : S2048x512.Idx → F .bf16 := fun i =>
  if h : (i 0).val = 0 ∨ (i 0).val = 2047 then G i
  else blend (G (at2 ((i 0).val - 1) (by have := row_lt i; omega) (i 1))) (G i)
    (G (at2 ((i 0).val + 1) (by have := row_lt i; omega) (i 1)))

/-- The whole array whose four blocks of rows are the devices' blocks `X`. -/
def glue (X : Dev nD → S512x512.Idx → F .bf16) : S2048x512.Idx → F .bf16 := fun i =>
  X ⟨(i 0).val / 512, by have := row_lt i; show _ < 4; omega⟩
    (at2 ((i 0).val % 512) (Nat.mod_lt _ (by decide)) (i 1))

/-- Device `c`'s block of the result. -/
def outBlk (X : Dev nD → S512x512.Idx → F .bf16) (c : Dev nD) : S512x512.Idx → F .bf16 :=
  Layout.block ⟨2, ![512, 512]⟩ ⟨2, ![2048, 512]⟩ 0 4 c (stencil (glue X))

omit [FloatOps F] in
/-- Row `512 c + r` of the glued array is row `r` of block `c`. -/
theorem glue_at (X : Dev nD → S512x512.Idx → F .bf16) (c : Dev nD) (i : S2048x512.Idx) (k : S512x512.Idx)
    (h0 : (i 0).val = c.val * 512 + (k 0).val) (h1 : (i 1).val = (k 1).val) : glue X i = X c k := by
  have hk := row_lt k
  have hc : (⟨(i 0).val / 512, by have := row_lt i; show _ < 4; omega⟩ : Dev nD) = c := Fin.ext (by show (i 0).val / 512 = c.val; omega)
  unfold glue
  rw [hc]
  exact congrArg (X c) (idx_ext (by show (i 0).val % 512 = _; omega) h1)

omit [FloatOps F] in
/-- An array is glued from its own blocks. -/
theorem glue_block (X : Dev nD → S512x512.Idx → F .bf16) (G : S2048x512.Idx → F .bf16)
    (h : ∀ c, X c = Layout.block ⟨2, ![512, 512]⟩ ⟨2, ![2048, 512]⟩ 0 4 c G) : glue X = G := by
  funext i
  unfold glue
  rw [h, Layout.block_apply]
  refine congrArg G (idx_ext ?_ ?_)
  · rw [Layout.Tiles.idx_val]
    show (i 0).val / 512 * 512 + (i 0).val % 512 = _
    omega
  · rw [Layout.Tiles.idx_val]
    rfl

/-- The whole row an index of device `c`'s block lands on. -/
def wholeIdx (c : Dev nD) (i : S512x512.Idx) : S2048x512.Idx :=
  at2 (c.val * 512 + (i 0).val) (by have := row_lt i; have : c.val < 4 := c.isLt; omega) (i 1)

theorem outBlk_eq (X : Dev nD → S512x512.Idx → F .bf16) (c : Dev nD) (i : S512x512.Idx) :
    outBlk X c i = stencil (glue X) (wholeIdx c i) := by
  unfold outBlk
  rw [Layout.block_apply]
  exact congrArg _ (idx_ext (by rw [Layout.Tiles.idx_val]; rfl) (by rw [Layout.Tiles.idx_val]; rfl))

/-- A row of the result that is neither the first nor the last of the whole array is the blend of three given values,
    where those are the whole array's rows around it. -/
theorem outBlk_blend (X : Dev nD → S512x512.Idx → F .bf16) (c : Dev nD) (i : S512x512.Idx)
    (h : c.val * 512 + (i 0).val ≠ 0 ∧ c.val * 512 + (i 0).val ≠ 2047)
    (c₁ c₂ : Dev nD) (k₁ k₂ : S512x512.Idx)
    (h1 : c.val * 512 + (i 0).val = c₁.val * 512 + (k₁ 0).val + 1) (h1' : (k₁ 1).val = (i 1).val)
    (h2 : c.val * 512 + (i 0).val + 1 = c₂.val * 512 + (k₂ 0).val) (h2' : (k₂ 1).val = (i 1).val) :
    outBlk X c i = blend (X c₁ k₁) (X c i) (X c₂ k₂) := by
  rw [outBlk_eq]
  unfold stencil
  rw [dif_neg (fun hh => by rcases hh with hh | hh; exacts [h.1 hh, h.2 hh])]
  rw [glue_at X c₁ _ k₁ (by show c.val * 512 + (i 0).val - 1 = _; omega) h1'.symm,
    glue_at X c (wholeIdx c i) i rfl rfl,
    glue_at X c₂ _ k₂ (by show c.val * 512 + (i 0).val + 1 = _; omega) h2'.symm]

/-- The first and the last row of the whole array are copied. -/
theorem outBlk_copy (X : Dev nD → S512x512.Idx → F .bf16) (c : Dev nD) (i : S512x512.Idx)
    (h : c.val * 512 + (i 0).val = 0 ∨ c.val * 512 + (i 0).val = 2047) : outBlk X c i = X c i := by
  rw [outBlk_eq]
  exact (dif_pos (show (wholeIdx c i 0).val = 0 ∨ (wholeIdx c i 0).val = 2047 from h)).trans
    (glue_at X c (wholeIdx c i) i rfl rfl)

end Cert.Stencil

end
-- ==== Proof.Protocol.lean ====
/-
# The halo exchange: who signals whom, what each landing hands over, who owes what

The four devices stand in a row. A device that has a neighbour on a side signals it that it has entered the kernel, and
waits for that neighbour's signal; then it copies its edge rows on that side (a pair of rows, one word high) into the
neighbour's scratch. A direction is a Boolean: `false` is to the right (the next device), `true` to the left. Names of
peers are taken around the ring of four, so that they need no side condition; the two ends of the row owe nothing across
the gap.

The signal that device `c` gets from its peer in direction `d` hands `c` that peer's landing rows for copies in
direction `d`. The copy's landing hands the receiver the landing rows holding the sender's edge rows; the sender's own
completion hands it back its share of the rows it sent.
-/
module

public import proofs.«01_k».proof.Proof.Stencil
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Halo

open Cert.KernelIdeal Cert.KernelIdeal.Gen Cert.Stencil

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's and the exchange's rounds side by side -/

abbrev UX : Type := URounds (GSem nD τ sig) Bool
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

abbrev 𝒱₀ : Variants := Variants.none

variable (m : (ℓ : Loc nD τ sig) → Buf (Elt F) ℓ) (ρ : Dev nD → PrngReg)

/-- The memory at launch: arbitrary contents and generator registers, every counter zero. -/
def s₀ : MemSt nD τ sig (Elt F) := ⟨m, fun _ => 0, ρ⟩

/-! ## Peers -/

/-- Device `c`'s peer in direction `d`, around the ring. -/
def peer (d : Bool) (c : Dev nD) : Dev nD := ⟨(c.val + if d then 3 else 1) % 4, Nat.mod_lt _ (by decide)⟩

/-- Whether that peer is really a neighbour in the row. -/
def has (d : Bool) (c : Dev nD) : Bool := if d then decide (0 < c.val) else decide (c.val < 3)

theorem peer_back (d : Bool) (c : Dev nD) : peer (!d) (peer d c) = c := by revert d c; decide
theorem peer_back' (d : Bool) (c : Dev nD) : peer d (peer (!d) c) = c := by revert d c; decide
theorem has_back (d : Bool) (c : Dev nD) : has (!d) (peer d c) = has d c := by revert d c; decide
theorem has_back' (d : Bool) (c : Dev nD) : has d (peer (!d) c) = has (!d) c := by revert d c; decide

/-- Going in direction `d` permutes the devices. -/
def ring (d : Bool) : Dev nD ≃ Dev nD := ⟨peer d, peer (!d), peer_back d, peer_back' d⟩

/-- The conditions the program tests, -/
theorem cond1_iff (c : Dev nD) : k0_cond1 c = 1#1 ↔ has true c = true := by revert c; decide +kernel
theorem cond2_iff (c : Dev nD) : k0_cond2 c = 1#1 ↔ has false c = true := by revert c; decide +kernel
theorem cond5_iff (c : Dev nD) : k0_cond5 c = 1#1 ↔ has false c = true := by revert c; decide +kernel
theorem cond6_iff (c : Dev nD) : k0_cond6 c = 1#1 ↔ has true c = true := by revert c; decide +kernel

/-- and the peers it names where they hold. -/
theorem dev1_eq (c : Dev nD) (hc : has true c = true) (h : k0_dev1 c < nD) : (⟨k0_dev1 c, h⟩ : Dev nD) = peer true c :=
  Fin.ext ((show ∀ c : Dev nD, has true c = true → k0_dev1 c = (peer true c).val by decide +kernel) c hc)
theorem dev2_eq (c : Dev nD) (hc : has false c = true) (h : k0_dev2 c < nD) : (⟨k0_dev2 c, h⟩ : Dev nD) = peer false c :=
  Fin.ext ((show ∀ c : Dev nD, has false c = true → k0_dev2 c = (peer false c).val by decide +kernel) c hc)
theorem dev3_eq (c : Dev nD) (hc : has false c = true) (h : k0_dev3 c < nD) : (⟨k0_dev3 c, h⟩ : Dev nD) = peer false c :=
  Fin.ext ((show ∀ c : Dev nD, has false c = true → k0_dev3 c = (peer false c).val by decide +kernel) c hc)
theorem dev4_eq (c : Dev nD) (hc : has true c = true) (h : k0_dev4 c < nD) : (⟨k0_dev4 c, h⟩ : Dev nD) = peer true c :=
  Fin.ext ((show ∀ c : Dev nD, has true c = true → k0_dev4 c = (peer true c).val by decide +kernel) c hc)

/-! ## Memrefs and cells -/

abbrev xM : Memref sig .tc .vmem S512x512 .bf16 := Memref.whole cc0_stg0_0
abbrev oM : Memref sig .tc .vmem S512x512 .bf16 := Memref.whole cc0_stg1_0
abbrev hM : Memref sig .tc .vmem S4x512 .bf16 := Memref.whole cc0_scratch0

/-- The first row of the pair of rows of `x` that a copy in direction `d` sends (its last two rows to the right, its
    first two to the left), and of the pair of scratch rows it lands in on the receiver. -/
abbrev srcRow (d : Bool) : ℕ := match d with | false => 510 | true => 0
abbrev dstRow (d : Bool) : ℕ := match d with | false => 0 | true => 2
theorem src_inb (d : Bool) : ∀ a, ![srcRow d, 0] a + S2x512.size a ≤ S512x512.size a := by cases d <;> decide
theorem dst_inb (d : Bool) : ∀ a, ![dstRow d, 0] a + S2x512.size a ≤ S4x512.size a := by cases d <;> decide

/-- Those two pairs of rows. -/
abbrev src (d : Bool) : Memref sig .tc .vmem S2x512 .bf16 :=
  xM.slice (Rect.unit (s := S512x512) ![srcRow d, 0] S2x512.size (src_inb d)) (fun _ => rfl)
abbrev dst (d : Bool) : Memref sig .tc .vmem S2x512 .bf16 :=
  hM.slice (Rect.unit (s := S4x512) ![dstRow d, 0] S2x512.size (dst_inb d)) (fun _ => rfl)

/-- The barrier semaphore, and per direction the semaphores of a copy's completion at its sender and of its landing. -/
abbrev barS : Sem sig := (SemArray.scalar (sig.barrier 0 rfl) : Sems sig S_).sem
abbrev sS (d : Bool) : DmaSem sig := match d with
  | false => ((cc0_scratch1.slice (Rect.unit (s := S2) ![0] S1.size inb_S2_S1_0)).squeeze S_ squeezes_S1_S_).sem
  | true => ((cc0_scratch1.slice (Rect.unit (s := S2) ![1] S1.size inb_S2_S1_1)).squeeze S_ squeezes_S1_S_).sem
abbrev rS (d : Bool) : DmaSem sig := match d with
  | false => ((cc0_scratch2.slice (Rect.unit (s := S2) ![0] S1.size inb_S2_S1_0)).squeeze S_ squeezes_S1_S_).sem
  | true => ((cc0_scratch2.slice (Rect.unit (s := S2) ![1] S1.size inb_S2_S1_1)).squeeze S_ squeezes_S1_S_).sem

theorem sS_val : sS false = 2 ∧ sS true = 3 ∧ rS false = 4 ∧ rS true = 5 := by decide

/-- The kernel's own four semaphores, as the launch lists them; -/
abbrev osem : Fin 4 → SemLoc sig := fun | 0 => .dma (sS false) | 1 => .dma (sS true) | 2 => .dma (rS false) | 3 => .dma (rS true)
/-- with the barrier, the five of the exchange. -/
abbrev csem : Fin 5 → SemLoc sig := fun
  | 0 => .reg barS | 1 => .dma (sS false) | 2 => .dma (sS true) | 3 => .dma (rS false) | 4 => .dma (rS true)
abbrev kcell (ck : Dev nD × Fin 5) : GSem nD τ sig := ((ck.1 : Thread nD τ), csem ck.2)
/-- Where a copy's two cells stand in that list. -/
abbrev sIx (d : Bool) : Fin 5 := match d with | false => 1 | true => 2
abbrev rIx (d : Bool) : Fin 5 := match d with | false => 3 | true => 4

abbrev barCell (c : Dev nD) : GSem nD τ sig := ((c : Thread nD τ), .reg barS)
abbrev sendCell (d : Bool) (c : Dev nD) : GSem nD τ sig := ((c : Thread nD τ), .dma (sS d))
abbrev recvCell (d : Bool) (c : Dev nD) : GSem nD τ sig := ((c : Thread nD τ), .dma (rS d))

theorem kcell_send (d : Bool) (c : Dev nD) : kcell (c, sIx d) = sendCell d c := by cases d <;> rfl
theorem kcell_recv (d : Bool) (c : Dev nD) : kcell (c, rIx d) = recvCell d c := by cases d <;> rfl

/-- The units a copy of a pair of rows credits. -/
abbrev N : ℕ := (dst false).view.dmaCredit
theorem N_pos : 0 < N := View.dmaCredit_pos _ (by decide)
theorem dst_credit (d : Bool) : (dst d).view.dmaCredit = N := by cases d <;> rfl

/-! ## Contents -/

/-- Device `c`'s block of `x`, as its kernel finds it. -/
def xstg (c : Dev nD) : (cc0_stg0_0 : Ref sig .tc).ty.Contents (Elt F) :=
  (win0_0.blk (0 : Fin 1)).view.read (Elt F) ((s₀ m ρ).mem ((c : Thread nD τ).loc main_arg0))

/-- Device `c`'s block of the result. -/
def outAt (c : Dev nD) : (cc0_stg1_0 : Ref sig .tc).ty.Contents (Elt F) := outBlk (fun c => xstg m ρ c) c

/-- Device `c` holds the landing rows of direction `d`, with contents `f`; -/
def landPts (d : Bool) (c : Dev nD) (f : Buf (Elt F) ((dst d).view.loc (c : Thread nD τ))) : sProp 𝕄 :=
  (dst d).view.loc (c : Thread nD τ) ↦[(dst d).view.set]{fullShare} f
/-- with some contents; -/
def landAny (d : Bool) (c : Dev nD) : sProp 𝕄 := iprop(∃ f, landPts d c f)
/-- with what its peer behind sends: the edge rows of that peer's block. -/
def landGot (d : Bool) (c : Dev nD) : sProp 𝕄 :=
  iprop(∃ f, ⌜(dst d).view.read (Elt F) f = (src d).view.read (Elt F) (xstg m ρ (peer (!d) c))⌝ ∗ landPts d c f)
/-- Half a share of the edge rows of `x` that a copy in direction `d` reads. -/
def srcPts (d : Bool) (c : Dev nD) : sProp 𝕄 :=
  (src d).view.loc (c : Thread nD τ) ↦[(src d).view.set]{fullShare.right} xstg m ρ c

omit [FloatOps F] in
instance landPts_storable (d : Bool) (c : Dev nD) (f) : BI.Storable (upEmb : UEmb _ 𝕄) (landPts (F := F) d c f) := by
  unfold landPts; infer_instance
omit [FloatOps F] in
instance landAny_storable (d : Bool) (c : Dev nD) : BI.Storable (upEmb : UEmb _ 𝕄) (landAny (F := F) d c) := by
  unfold landAny; infer_instance
omit [FloatOps F] in
instance landGot_storable (d : Bool) (c : Dev nD) : BI.Storable (upEmb : UEmb _ 𝕄) (landGot (F := F) m ρ d c) := by
  unfold landGot; infer_instance
omit [FloatOps F] in
instance srcPts_storable (d : Bool) (c : Dev nD) : BI.Storable (upEmb : UEmb _ 𝕄) (srcPts (F := F) m ρ d c) := by
  unfold srcPts; infer_instance

/-! ## The schedule: one round -/

/-- A resource that is there only where a neighbour is. -/
def opt (b : Bool) (R : sProp 𝕄) : sProp 𝕄 := if b then R else iprop(emp)
/-- One duty, where a neighbour is. -/
abbrev one (b : Bool) : Finset Bool := if b then {false} else ∅

/-- In round 0 a barrier cell has one duty of one unit from each neighbour, named by the direction it lies in, that
    hands over that neighbour's landing rows; a copy's two cells have one duty of the copy's credit if the copy takes
    place. -/
def sched : Rounds.Schedule (GSem nD τ sig) Bool 𝕄 where
  duties g r :=
    if r = 0 ∧ g.1.2 = .tc then
      if g.2 = .reg barS then Finset.univ.filter (fun d => has d g.1.1 = true)
      else if g.2 = .dma (sS false) then one (has false g.1.1)
      else if g.2 = .dma (sS true) then one (has true g.1.1)
      else if g.2 = .dma (rS false) then one (has true g.1.1)
      else if g.2 = .dma (rS true) then one (has false g.1.1)
      else ∅
    else ∅
  unitless _ := False
  amount g _ _ := if g.2 = .reg barS then 1 else N
  payload g _ d :=
    if g.2 = .reg barS then landAny d (peer d g.1.1)
    else if g.2 = .dma (sS false) then srcPts m ρ false g.1.1
    else if g.2 = .dma (sS true) then srcPts m ρ true g.1.1
    else if g.2 = .dma (rS false) then landGot m ρ false g.1.1
    else if g.2 = .dma (rS true) then landGot m ρ true g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Bool) :
    BI.Storable (upEmb : UEmb _ 𝕄) ((sched (F := F) m ρ).payload g r d) := by
  dsimp only [sched]
  (repeat' split) <;> infer_instance

section Sched
variable (d e : Bool) (c : Dev nD)

theorem sS_ne_bar : (SemLoc.dma (sS d) : SemLoc sig) ≠ .reg barS := fun h => by cases h
theorem rS_ne_bar : (SemLoc.dma (rS d) : SemLoc sig) ≠ .reg barS := fun h => by cases h

omit [FloatOps F] in
theorem duties_bar : (sched (F := F) m ρ).duties (barCell c) 0 = Finset.univ.filter (fun d => has d c = true) := by
  dsimp only [sched]; rw [if_pos ⟨rfl, rfl⟩, if_pos rfl]
omit [FloatOps F] in
theorem duties_send : (sched (F := F) m ρ).duties (sendCell d c) 0 = one (has d c) := by
  dsimp only [sched]; rw [if_pos ⟨rfl, rfl⟩, if_neg (sS_ne_bar d)]
  cases d
  · rw [if_pos rfl]
  · rw [if_neg (by decide), if_pos rfl]
omit [FloatOps F] in
theorem duties_recv : (sched (F := F) m ρ).duties (recvCell d c) 0 = one (has (!d) c) := by
  dsimp only [sched]; rw [if_pos ⟨rfl, rfl⟩, if_neg (rS_ne_bar d)]
  cases d
  · rw [if_neg (by decide), if_neg (by decide), if_pos rfl]; rfl
  · rw [if_neg (by decide), if_neg (by decide), if_neg (by decide), if_pos rfl]; rfl
omit [FloatOps F] in
theorem duties_later (g : GSem nD τ sig) (r : ℕ) (hr : 1 ≤ r) : (sched (F := F) m ρ).duties g r = ∅ := by
  dsimp only [sched]; rw [if_neg fun h => by omega]

omit [FloatOps F] in
theorem amount_bar (r : ℕ) : (sched (F := F) m ρ).amount (barCell c) r e = 1 := by dsimp only [sched]; exact if_pos rfl
omit [FloatOps F] in
theorem amount_send (r : ℕ) : (sched (F := F) m ρ).amount (sendCell d c) r e = N := by dsimp only [sched]; exact if_neg (sS_ne_bar d)
omit [FloatOps F] in
theorem amount_recv (r : ℕ) : (sched (F := F) m ρ).amount (recvCell d c) r e = N := by dsimp only [sched]; exact if_neg (rS_ne_bar d)

omit [FloatOps F] in
theorem payload_bar (r : ℕ) : (sched (F := F) m ρ).payload (barCell c) r d = landAny d (peer d c) := by dsimp only [sched]; exact if_pos rfl
omit [FloatOps F] in
theorem payload_send (r : ℕ) : (sched (F := F) m ρ).payload (sendCell d c) r e = srcPts m ρ d c := by
  dsimp only [sched]; rw [if_neg (sS_ne_bar d)]
  cases d
  · rw [if_pos rfl]
  · rw [if_neg (by decide), if_pos rfl]
omit [FloatOps F] in
theorem payload_recv (r : ℕ) : (sched (F := F) m ρ).payload (recvCell d c) r e = landGot m ρ d c := by
  dsimp only [sched]; rw [if_neg (rS_ne_bar d)]
  cases d
  · rw [if_neg (by decide), if_neg (by decide), if_pos rfl]
  · rw [if_neg (by decide), if_neg (by decide), if_neg (by decide), if_pos rfl]

omit [FloatOps F] in
theorem expect_bar : (sched (F := F) m ρ).expect (barCell c) 0 = (has true c).toNat + (has false c).toNat := by
  unfold Schedule.expect Schedule.amountOf
  rw [duties_bar, Finset.sum_congr rfl fun d _ => amount_bar m ρ d c 0]
  revert c; decide
omit [FloatOps F] in
theorem expect_send (h : has d c = true) : (sched (F := F) m ρ).expect (sendCell d c) 0 = N := by
  unfold Schedule.expect Schedule.amountOf
  rw [duties_send, one, if_pos h, Finset.sum_singleton, amount_send]
omit [FloatOps F] in
theorem expect_recv (h : has (!d) c = true) : (sched (F := F) m ρ).expect (recvCell d c) 0 = N := by
  unfold Schedule.expect Schedule.amountOf
  rw [duties_recv, one, if_pos h, Finset.sum_singleton, amount_recv]

omit [FloatOps F] in
/-- What a whole round hands over: at a barrier cell the landing rows of each neighbour, -/
theorem pays_bar : bigSep ((sched (F := F) m ρ).duties (barCell c) 0) (fun d => (sched (F := F) m ρ).payload (barCell c) 0 d)
    = iprop(opt (has false c) (landAny false (peer false c)) ∗ opt (has true c) (landAny true (peer true c))) := by
  rw [duties_bar, bigSep_congr fun d _ => payload_bar m ρ d c 0, bigSep_filter,
    bigSep_univ_eq_bigSepL [false, true] (by decide) (by decide), bigSepL_cons_cons, bigSepL_singleton]
  rfl
omit [FloatOps F] in
/-- at a sender's cell its rows back, -/
theorem pays_send (h : has d c = true) :
    bigSep ((sched (F := F) m ρ).duties (sendCell d c) 0 \ ∅) (fun e => (sched (F := F) m ρ).payload (sendCell d c) 0 e) = srcPts m ρ d c := by
  rw [Finset.sdiff_empty, duties_send, one, if_pos h, bigSep_singleton, payload_send]
omit [FloatOps F] in
/-- at a receiver's the rows sent. -/
theorem pays_recv (h : has (!d) c = true) :
    bigSep ((sched (F := F) m ρ).duties (recvCell d c) 0 \ ∅) (fun e => (sched (F := F) m ρ).payload (recvCell d c) 0 e) = landGot m ρ d c := by
  rw [Finset.sdiff_empty, duties_recv, one, if_pos h, bigSep_singleton, payload_recv]

end Sched

/-! ## What each device owes at launch; the levels -/

/-- The unit device `c` owes its neighbour's barrier in direction `d`, and the credit it owes that neighbour's landing. -/
def owedBar (d : Bool) (c : Dev nD) : CellTallies nD τ sig Unit := tallyAt (barCell (peer d c)) () (has d c).toNat
def owedRow (d : Bool) (c : Dev nD) : CellTallies nD τ sig Unit := tallyAt (recvCell d (peer d c)) () (if has d c then N else 0)

/-- Owed after the signals; and at launch, in the order in which the program pays from the right. -/
def O₁ (c : Dev nD) : CellTallies nD τ sig Unit := owedRow true c + owedRow false c
def O₀ (c : Dev nD) : CellTallies nD τ sig Unit := O₁ c + owedBar false c + owedBar true c

def L (g : GSem nD τ sig) : Finset Unit := if g.1.2 = .tc then {()} else ∅
/-- Barrier cells at 1, landing cells at 2, everything else at 0. -/
def lv (g : GSem nD τ sig) (_ : Unit) : ℕ :=
  if g.2 = .reg barS then 1 else if g.2 = .dma (rS false) ∨ g.2 = .dma (rS true) then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_recv (d : Bool) (c : Dev nD) : lv (recvCell d c) () = 2 := by
  unfold lv; rw [if_neg (rS_ne_bar d)]; cases d
  · exact if_pos (Or.inl rfl)
  · exact if_pos (Or.inr rfl)

/-- A positive tally at a cell is at that cell. -/
theorem tally_pos {g g' : GSem nD τ sig} {u : Unit} {n : ℕ} (h : 0 < (tallyAt g () n : CellTallies nD τ sig Unit) g' u) : g' = g := by
  rw [tallyAt_apply] at h
  by_contra hn
  rw [if_neg fun h' => hn h'.1] at h
  exact Nat.lt_irrefl 0 h

theorem O₁_pos {c : Dev nD} {g : GSem nD τ sig} {u : Unit} (h : 0 < O₁ c g u) : ∃ d c', g = recvCell d c' := by
  unfold O₁ owedRow at h
  rw [Pi.add_apply, Finsupp.add_apply] at h
  rcases Nat.add_pos_iff_pos_or_pos.mp h with h | h
  · exact ⟨_, _, tally_pos h⟩
  · exact ⟨_, _, tally_pos h⟩

theorem O₀_pos {c : Dev nD} {g : GSem nD τ sig} {u : Unit} (h : 0 < O₀ c g u) :
    (∃ d c', g = recvCell d c') ∨ ∃ c', g = barCell c' := by
  unfold O₀ owedBar at h
  rw [Pi.add_apply, Finsupp.add_apply, Pi.add_apply, Finsupp.add_apply] at h
  rcases Nat.add_pos_iff_pos_or_pos.mp h with h | h
  · rcases Nat.add_pos_iff_pos_or_pos.mp h with h | h
    · exact Or.inl (O₁_pos h)
    · exact Or.inr ⟨_, tally_pos h⟩
  · exact Or.inr ⟨_, tally_pos h⟩

omit [FloatOps F] in
/-- A wait on a staging semaphore is below everything owed. -/
theorem mayWait_stage (c : Dev nD) (q : DmaSem sig) (hq : SemLoc.dma q ≠ .dma (rS false) ∧ SemLoc.dma q ≠ .dma (rS true))
    (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        rcases O₀_pos hg with ⟨_, _, rfl⟩ | ⟨_, rfl⟩ <;> exact Finset.mem_singleton_self _)
      (fun p hp => by
        rw [Finset.mem_singleton.mp hp]; dsimp only [lv]
        rw [if_neg (fun h => by cases h), if_neg (fun h => h.elim hq.1 hq.2)])
      (fun g u hg => by
        rcases O₀_pos hg with ⟨_, _, rfl⟩ | ⟨_, rfl⟩
        · rw [lv_recv]; decide
        · rw [lv_bar]; decide)
  · rw [MayWait_zero]; iintro -; iempintro

omit [FloatOps F] in
/-- A wait on the barrier is below the landings still owed. -/
theorem mayWait_bar (c : Dev nD) : (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by obtain ⟨_, _, rfl⟩ := O₁_pos hg; exact Finset.mem_singleton_self _)
    (fun p hp => by rw [Finset.mem_singleton.mp hp]; exact (lv_bar c).le)
    (fun g u hg => by obtain ⟨_, _, rfl⟩ := O₁_pos hg; rw [lv_recv]; decide)

/-! ## What a device starts from -/

/-- The invariants of all the cells, under the names `K`, and that every cell has reached round 0. -/
def records (K : Dev nD × Fin 5 → ℕ) : sProp 𝕄 :=
  iprop((bigSep Finset.univ fun ck : Dev nD × Fin 5 => cellInv ER (sched m ρ) (K ck) (kcell ck))
    ∗ bigSep Finset.univ fun ck : Dev nD × Fin 5 => reached ER (kcell ck) 0)

instance records_persistent (K : Dev nD × Fin 5 → ℕ) : BI.Persistent (records m ρ K) := by unfold records; infer_instance

omit [FloatOps F] in
theorem rec_inv (K : Dev nD × Fin 5 → ℕ) (ck : Dev nD × Fin 5) : records (F := F) m ρ K ⊢ cellInv ER (sched m ρ) (K ck) (kcell ck) :=
  sep_elim_left.trans (bigSep_elim (Finset.mem_univ ck))
omit [FloatOps F] in
theorem rec_reached (K : Dev nD × Fin 5 → ℕ) (ck : Dev nD × Fin 5) : records (F := F) m ρ K ⊢ reached ER (kcell ck) 0 :=
  sep_elim_right.trans (bigSep_elim (Finset.mem_univ ck))

/-- The tokens with which device `c` pays in direction `d`: its peer's barrier duty, the landing there, its own send. -/
def payTok (d : Bool) (c : Dev nD) : sProp 𝕄 :=
  iprop(dutyTok ER (barCell (peer d c)) 0 (!d) ∗ dutyTok ER (recvCell d (peer d c)) 0 false ∗ dutyTok ER (sendCell d c) 0 false)

/-- Device `c`'s positions at round 0 of its five cells. -/
def positions (c : Dev nD) : sProp 𝕄 :=
  iprop(atPos ER (barCell c) 0 ∅ 0 ∗ atPos ER (sendCell false c) 0 ∅ 0 ∗ atPos ER (sendCell true c) 0 ∅ 0
    ∗ atPos ER (recvCell false c) 0 ∅ 0 ∗ atPos ER (recvCell true c) 0 ∅ 0)

/-- The credits that device `c`'s own waits spend: a barrier unit and a landing per neighbour. -/
def credits (c : Dev nD) : sProp 𝕄 :=
  iprop(cred (tallyAt (barCell c) () ((has true c).toNat + (has false c).toNat))
    ∗ cred (tallyAt (recvCell false c) () (if has true c then N else 0)) ∗ cred (tallyAt (recvCell true c) () (if has false c then N else 0)))

/-- The exchange's ghost state on device `c`. -/
def ghost (K : Dev nD × Fin 5 → ℕ) (c : Dev nD) : sProp 𝕄 :=
  iprop(records m ρ K ∗ positions c ∗ payTok false c ∗ payTok true c)

def start (c : Dev nD) : sProp 𝕄 := iprop((∃ K, ghost m ρ K c) ∗ credits c ∗ levAts L lv)

/-- Before the kernel: that, and both pairs of landing rows. -/
def Φ₀ (c : Dev nD) : sProp 𝕄 := iprop(start m ρ c ∗ landAny false c ∗ landAny true c)
/-- After it: both pairs of landing rows, and the five cells closed at zero. -/
def Φ₁ (c : Dev nD) : sProp 𝕄 :=
  iprop(landAny false c ∗ landAny true c ∗ semVal (barCell c) 0 ∗ semVal (sendCell false c) 0 ∗ semVal (sendCell true c) 0
    ∗ semVal (recvCell false c) 0 ∗ semVal (recvCell true c) 0)

/-- The one pipeline point's data: the block of `x` is read, the block of the result written. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

end Cert.Halo

end
-- ==== Proof.Rows.lean ====
/-
# The rows the kernel computes

What the loads of rows of `x` and of the scratch read, what a store of rows leaves in the result's buffer, and that the
three stores of the kernel (the inner rows, the first row, the last row) leave there this device's block of the result.
-/
module

public import proofs.«01_k».proof.Proof.Protocol
public import Idealize.ShloMosaic.Lib.Pipeline.ValueKit.Geometry

@[expose] public section

noncomputable section

namespace Cert.Halo

open Cert.KernelIdeal Cert.KernelIdeal.Gen Cert.Stencil

open Idealize.ShloMosaic
open Idealize.ShloMosaic.TcCoe

variable {F : FTy → Type} [FloatOps F]
variable (m : (ℓ : Loc nD τ sig) → Buf (Elt F) ℓ) (ρ : Dev nD → PrngReg)

/-- The shape of `k` rows. -/
abbrev SK (k : ℕ) : Shape := ⟨2, ![k, 512]⟩
/-- The rectangle of `k` rows from row `r` of an array of `n` rows. -/
abbrev rowsOf (n r k : ℕ) (inb : ∀ a, ![r, 0] a + (SK k).size a ≤ (SK n).size a) : Rect (SK n) :=
  Rect.unit (s := SK n) ![r, 0] (SK k).size inb

section Geometry
variable {n r k : ℕ} (inb : ∀ a, ![r, 0] a + (SK k).size a ≤ (SK n).size a)

include inb in
theorem rows_le : r + k ≤ n := inb 0

/-- Row `j` of the rectangle is row `r + j` of the array. -/
theorem rows_emb (j : (SK k).Idx) :
    (rowsOf n r k inb).emb j = at2 (r + (j 0).val) (by have := rows_le inb; have := row_lt j; omega) (j 1) :=
  idx_ext (ValueKit.rect_emb_unit_val _ _ _ _ _) ((ValueKit.rect_emb_unit_val _ _ _ _ _).trans (Nat.zero_add _))

/-- The rectangle holds the indices whose row lies in it. -/
theorem rows_mem (i : (SK n).Idx) : i ∈ (rowsOf n r k inb).set ↔ r ≤ (i 0).val ∧ (i 0).val < r + k := by
  rw [Rect.mem_set_unit]
  constructor
  · exact fun h => h 0
  · intro h a
    match a with
    | ⟨0, _⟩ => exact h
    | ⟨1, _⟩ => exact ⟨Nat.zero_le _, (col_lt i).trans_eq (Nat.zero_add _).symm⟩

end Geometry

/-! ## Loads -/

omit [FloatOps F] in
/-- A load of rows of `x` reads at row `j` of the load the array's row `r + j`. -/
theorem load_x {r k : ℕ} (inb : ∀ a, ![r, 0] a + (SK k).size a ≤ (SK 512).size a) (f : (cc0_stg0_0 : Ref sig .tc).ty.Contents (Elt F))
    (j : (SK k).Idx) (i : S512x512.Idx) (h0 : (i 0).val = r + (j 0).val) (h1 : (j 1).val = (i 1).val) :
    xM.view.readAt (Elt F) (rowsOf 512 r k inb).toLoadRect f j = f i :=
  congrArg f ((rows_emb inb j).trans (idx_ext h0.symm h1))

omit [FloatOps F] in
/-- And so does a load of rows of the scratch. -/
theorem load_h {r k : ℕ} (inb : ∀ a, ![r, 0] a + (SK k).size a ≤ (SK 4).size a) (f : (cc0_scratch0 : Ref sig .tc).ty.Contents (Elt F))
    (j : (SK k).Idx) (i : S4x512.Idx) (h0 : (i 0).val = r + (j 0).val) (h1 : (j 1).val = (i 1).val) :
    hM.view.readAt (Elt F) (rowsOf 4 r k inb).toLoadRect f j = f i :=
  congrArg f ((rows_emb inb j).trans (idx_ext h0.symm h1))

/-! ## What is stored, value by value -/

theorem pay_inner (a b c : (SK 510).Idx → F .bf16) (j : (SK 510).Idx) :
    k0_pay1 (k0_pay6 a) (k0_pay7 b) k0_pay8 c j = blend (a j) (b j) (c j) := by
  simp only [k0_pay1, k0_pay6, k0_pay7, k0_pay8, shapeCast_self]; rfl
theorem pay_first (a b c : (SK 1).Idx → F .bf16) (j : (SK 1).Idx) : k0_pay3 a b c j = blend (a j) (b j) (c j) := by
  simp only [k0_pay3, shapeCast_self]; rfl
theorem pay_last (a b c : (SK 1).Idx → F .bf16) (j : (SK 1).Idx) : k0_pay5 a b c j = blend (a j) (b j) (c j) := by
  simp only [k0_pay5, shapeCast_self]; rfl

theorem blend_congr {a a' b b' c c' : F .bf16} (ha : a = a') (hb : b = b') (hc : c = c') : blend a b c = blend a' b' c' := by
  rw [ha, hb, hc]

/-! ## Stores -/

/-- Contents of the result's buffer that are device `c`'s block of the result on the rows from `lo` up to `hi`. -/
def Agrees (c : Dev nD) (lo hi : ℕ) (g : (cc0_stg1_0 : Ref sig .tc).ty.Contents (Elt F)) : Prop :=
  ∀ i : S512x512.Idx, lo ≤ (i 0).val → (i 0).val < hi → g i = outAt m ρ c i

/-- What a store leaves that loads `k` rows from row `r`, replaces `p` of them from the `s`-th by `pay`, and stores them back. -/
abbrev stored {r k p s : ℕ} (inb : ∀ a, ![r, 0] a + (SK k).size a ≤ (SK 512).size a) (hsl : (SK k).Slices ![s, 0] (SK p))
    (g : (cc0_stg1_0 : Ref sig .tc).ty.Contents (Elt F)) (pay : (SK p).Idx → F .bf16) : (cc0_stg1_0 : Ref sig .tc).ty.Contents (Elt F) :=
  (oM.access (rowsOf 512 r k inb)).write (Elt F) g
    (updateSlice (oM.view.readAt (Elt F) (rowsOf 512 r k inb).toLoadRect g) pay ![s, 0] hsl) Finset.univ

omit [FloatOps F] in
/-- Such a store leaves `pay` on its rows and everything else as it was. -/
theorem stored_at {r k p s : ℕ} (inb : ∀ a, ![r, 0] a + (SK k).size a ≤ (SK 512).size a) (hsl : (SK k).Slices ![s, 0] (SK p))
    (g : (cc0_stg1_0 : Ref sig .tc).ty.Contents (Elt F)) (pay : (SK p).Idx → F .bf16) (i : S512x512.Idx) :
    stored inb hsl g pay i = if h : r + s ≤ (i 0).val ∧ (i 0).val < r + s + p then
      pay (at2 ((i 0).val - (r + s)) (by omega) (i 1)) else g i := by
  have hsp : s + p ≤ k := hsl.2 0
  by_cases hi : r ≤ (i 0).val ∧ (i 0).val < r + k
  · have hj : i = (oM.access (rowsOf 512 r k inb)).emb (at2 ((i 0).val - r) (by omega) (i 1) : (SK k).Idx) :=
      idx_ext (((ValueKit.rect_emb_unit_val _ _ _ _ _).trans (show r + ((i 0).val - r) = _ by omega)).symm)
        (((ValueKit.rect_emb_unit_val _ _ _ _ _).trans (Nat.zero_add _)).symm)
    have hw : stored inb hsl g pay i = updateSlice (oM.view.readAt (Elt F) (rowsOf 512 r k inb).toLoadRect g) pay ![s, 0] hsl
        (at2 ((i 0).val - r) (by omega) (i 1)) :=
      (congrArg (stored inb hsl g pay) hj).trans (View.write_emb_of_mem _ _ (Finset.mem_univ _))
    rw [hw]
    unfold updateSlice
    by_cases h : r + s ≤ (i 0).val ∧ (i 0).val < r + s + p
    · rw [dif_pos h, dif_pos]
      · exact congrArg pay (idx_ext (show (i 0).val - r - s = (i 0).val - (r + s) by omega) (Nat.sub_zero _))
      · intro a
        match a with
        | ⟨0, _⟩ => exact ⟨show s ≤ (i 0).val - r by omega, show (i 0).val - r < s + p by omega⟩
        | ⟨1, _⟩ => exact ⟨Nat.zero_le _, (col_lt i).trans_eq (Nat.zero_add _).symm⟩
    · rw [dif_neg h, dif_neg]
      · exact congrArg g hj.symm
      · intro hh
        have h0 : s ≤ (i 0).val - r ∧ (i 0).val - r < s + p := hh 0
        exact h ⟨by omega, by omega⟩
  · rw [dif_neg (fun h => hi ⟨by omega, by omega⟩)]
    refine View.write_of_not_mem _ _ _ fun hm => hi ?_
    rw [View.setOn_univ, View.set_slice_whole] at hm
    exact (rows_mem inb i).mp hm

/-- A store of rows of the result on contents that already agree with it elsewhere. -/
theorem stored_agrees (c : Dev nD) {r k p s lo hi lo' hi' : ℕ} (inb : ∀ a, ![r, 0] a + (SK k).size a ≤ (SK 512).size a)
    (hsl : (SK k).Slices ![s, 0] (SK p)) (g : (cc0_stg1_0 : Ref sig .tc).ty.Contents (Elt F)) (pay : (SK p).Idx → F .bf16)
    (hg : Agrees m ρ c lo hi g)
    (hpay : ∀ i : S512x512.Idx, ∀ j : (SK p).Idx, (i 0).val = r + s + (j 0).val → (j 1).val = (i 1).val → pay j = outAt m ρ c i)
    (hcov : ∀ x, lo' ≤ x → x < hi' → (r + s ≤ x ∧ x < r + s + p) ∨ lo ≤ x ∧ x < hi) :
    Agrees m ρ c lo' hi' (stored inb hsl g pay) := by
  intro i h1 h2
  rw [stored_at]
  by_cases h : r + s ≤ (i 0).val ∧ (i 0).val < r + s + p
  · rw [dif_pos h]
    exact hpay _ _ (show (i 0).val = r + s + ((i 0).val - (r + s)) by omega) rfl
  · rw [dif_neg h]
    rcases hcov _ h1 h2 with h' | h'
    · exact absurd h' h
    · exact hg i h'.1 h'.2

/-! ## The three stores -/

/-- Where device `c` has a neighbour its first or its last row is not the whole array's. -/
theorem has_left (c : Dev nD) : has true c = true ↔ 0 < c.val := by revert c; decide
theorem has_right (c : Dev nD) : has false c = true ↔ c.val < 3 := by revert c; decide
theorem peer_left (c : Dev nD) (h : has true c = true) : (peer true c).val + 1 = c.val := by revert c; decide
theorem peer_right (c : Dev nD) (h : has false c = true) : (peer false c).val = c.val + 1 := by revert c; decide

theorem dev_lt (c : Dev nD) : c.val < 4 := c.isLt

/-- The inner rows blend three loads of `x`, one row apart. -/
theorem inner_agrees (c : Dev nD) (inb0 inb1 inb2 inb hsl) (g : (cc0_stg1_0 : Ref sig .tc).ty.Contents (Elt F)) :
    Agrees m ρ c 1 511 (stored (r := 0) (k := 512) (p := 510) (s := 1) inb hsl g
      (k0_pay1 (k0_pay6 (xM.view.readAt (Elt F) (rowsOf 512 0 510 inb0).toLoadRect (xstg m ρ c)))
        (k0_pay7 (xM.view.readAt (Elt F) (rowsOf 512 1 510 inb1).toLoadRect (xstg m ρ c))) k0_pay8
        (xM.view.readAt (Elt F) (rowsOf 512 2 510 inb2).toLoadRect (xstg m ρ c)))) := by
  refine stored_agrees m ρ c (lo := 0) (hi := 0) inb hsl g _ (fun i _ h => absurd h (Nat.not_lt_zero _)) (fun i j h0 h1 => ?_)
    (fun x h h' => Or.inl ⟨by omega, by omega⟩)
  have hj := row_lt j
  have hc := dev_lt c
  rw [outAt, outBlk_blend (fun c => xstg m ρ c) c i ⟨by omega, by omega⟩ c c
    (at2 (0 + (j 0).val) (by omega) (i 1)) (at2 (2 + (j 0).val) (by omega) (i 1))
    (by show _ = c.val * 512 + (0 + (j 0).val) + 1; omega) rfl
    (by show _ = c.val * 512 + (2 + (j 0).val); omega) rfl]
  exact (pay_inner _ _ _ j).trans (blend_congr (load_x inb0 _ j _ rfl h1) (load_x inb1 _ j i (by omega) h1) (load_x inb2 _ j _ rfl h1))

/-- The first row of the first device is copied. -/
theorem first_copy (c : Dev nD) (hc : ¬ has true c = true) (inb0 inb hsl) (g : (cc0_stg1_0 : Ref sig .tc).ty.Contents (Elt F))
    (hg : Agrees m ρ c 1 511 g) :
    Agrees m ρ c 0 511 (stored (r := 0) (k := 2) (p := 1) (s := 0) inb hsl g
      (k0_pay2 (xM.view.readAt (Elt F) (rowsOf 512 0 1 inb0).toLoadRect (xstg m ρ c)))) := by
  refine stored_agrees m ρ c inb hsl g _ hg (fun i j h0 h1 => ?_)
    (fun x h h' => by omega)
  have hj := row_lt j
  have hc' : c.val = 0 := by rw [has_left] at hc; omega
  rw [outAt, outBlk_copy (fun c => xstg m ρ c) c i (Or.inl (by omega))]
  simp only [k0_pay2, shapeCast_self]
  exact load_x inb0 _ j i (by omega) h1

/-- The last row of the last device is copied. -/
theorem last_copy (c : Dev nD) (hc : ¬ has false c = true) (inb0 inb hsl) (g : (cc0_stg1_0 : Ref sig .tc).ty.Contents (Elt F))
    (hg : Agrees m ρ c 0 511 g) :
    Agrees m ρ c 0 512 (stored (r := 510) (k := 2) (p := 1) (s := 1) inb hsl g
      (k0_pay4 (xM.view.readAt (Elt F) (rowsOf 512 511 1 inb0).toLoadRect (xstg m ρ c)))) := by
  refine stored_agrees m ρ c inb hsl g _ hg (fun i j h0 h1 => ?_)
    (fun x h h' => by omega)
  have hj := row_lt j
  have hc' : c.val = 3 := by rw [has_right] at hc; have := dev_lt c; omega
  rw [outAt, outBlk_copy (fun c => xstg m ρ c) c i (Or.inr (by omega))]
  simp only [k0_pay4, shapeCast_self]
  exact load_x inb0 _ j i (by omega) h1

omit [FloatOps F] in
/-- Landing rows that hold the edge rows of the peer behind hold them row by row. -/
theorem landed_at (d : Bool) (c : Dev nD) (f : (cc0_scratch0 : Ref sig .tc).ty.Contents (Elt F))
    (hf : (dst d).view.read (Elt F) f = (src d).view.read (Elt F) (xstg m ρ (peer (!d) c))) (t : ℕ) (ht : t < 2)
    (i : S4x512.Idx) (k : S512x512.Idx) (hi : (i 0).val = dstRow d + t) (hk : (k 0).val = srcRow d + t) (h : (i 1).val = (k 1).val) :
    f i = xstg m ρ (peer (!d) c) k :=
  ((congrArg f ((rows_emb (n := 4) (k := 2) (dst_inb d) (at2 t ht (i 1))).trans (idx_ext (j := i) hi.symm rfl))).symm.trans
    (congrFun hf (at2 t ht (i 1)))).trans
    (congrArg (xstg m ρ (peer (!d) c)) ((rows_emb (n := 512) (k := 2) (src_inb d) (at2 t ht (i 1))).trans (idx_ext hk.symm h)))

/-- The first row of a device with a neighbour to the left blends that neighbour's last row, landed in the scratch. -/
theorem first_blend (c : Dev nD) (hc : has true c = true) (inbh inb0 inb1 inb hsl) (g : (cc0_stg1_0 : Ref sig .tc).ty.Contents (Elt F))
    (hg : Agrees m ρ c 1 511 g) (f : (cc0_scratch0 : Ref sig .tc).ty.Contents (Elt F))
    (hf : (dst false).view.read (Elt F) f = (src false).view.read (Elt F) (xstg m ρ (peer (!false) c))) :
    Agrees m ρ c 0 511 (stored (r := 0) (k := 2) (p := 1) (s := 0) inb hsl g
      (k0_pay3 (hM.view.readAt (Elt F) (rowsOf 4 1 1 inbh).toLoadRect f)
        (xM.view.readAt (Elt F) (rowsOf 512 0 1 inb0).toLoadRect (xstg m ρ c))
        (xM.view.readAt (Elt F) (rowsOf 512 1 1 inb1).toLoadRect (xstg m ρ c)))) := by
  refine stored_agrees m ρ c inb hsl g _ hg (fun i j h0 h1 => ?_)
    (fun x h h' => by omega)
  have hj := row_lt j
  have hl := (has_left c).mp hc
  have hp := peer_left c hc
  have hc4 := dev_lt c
  rw [outAt, outBlk_blend (fun c => xstg m ρ c) c i ⟨by omega, by omega⟩ (peer true c) c
    (at2 511 (by omega) (i 1)) (at2 (1 + (j 0).val) (by omega) (i 1))
    (by show _ = (peer true c).val * 512 + 511 + 1; omega) rfl
    (by show _ = c.val * 512 + (1 + (j 0).val); omega) rfl]
  exact (pay_first _ _ _ j).trans (blend_congr
    ((load_h inbh f j (at2 1 (by omega) (i 1)) (show 1 = 1 + (j 0).val by omega) h1).trans
      (landed_at m ρ false c f hf 1 (by decide) _ _ rfl rfl rfl))
    (load_x inb0 _ j i (by omega) h1) (load_x inb1 _ j _ rfl h1))

/-- The last row of a device with a neighbour to the right blends that neighbour's first row, landed in the scratch. -/
theorem last_blend (c : Dev nD) (hc : has false c = true) (inbh inb0 inb1 inb hsl) (g : (cc0_stg1_0 : Ref sig .tc).ty.Contents (Elt F))
    (hg : Agrees m ρ c 0 511 g) (f : (cc0_scratch0 : Ref sig .tc).ty.Contents (Elt F))
    (hf : (dst true).view.read (Elt F) f = (src true).view.read (Elt F) (xstg m ρ (peer (!true) c))) :
    Agrees m ρ c 0 512 (stored (r := 510) (k := 2) (p := 1) (s := 1) inb hsl g
      (k0_pay5 (xM.view.readAt (Elt F) (rowsOf 512 510 1 inb0).toLoadRect (xstg m ρ c))
        (xM.view.readAt (Elt F) (rowsOf 512 511 1 inb1).toLoadRect (xstg m ρ c))
        (hM.view.readAt (Elt F) (rowsOf 4 2 1 inbh).toLoadRect f))) := by
  refine stored_agrees m ρ c inb hsl g _ hg (fun i j h0 h1 => ?_)
    (fun x h h' => by omega)
  have hj := row_lt j
  have hl := (has_right c).mp hc
  have hp := peer_right c hc
  rw [outAt, outBlk_blend (fun c => xstg m ρ c) c i ⟨by omega, by omega⟩ c (peer false c)
    (at2 (510 + (j 0).val) (by omega) (i 1)) (at2 0 (by omega) (i 1))
    (by show _ = c.val * 512 + (510 + (j 0).val) + 1; omega) rfl
    (by show _ = (peer false c).val * 512 + 0; omega) rfl]
  exact (pay_last _ _ _ j).trans (blend_congr (load_x inb0 _ j _ rfl h1) (load_x inb1 _ j i (by omega) h1)
    ((load_h inbh f j (at2 2 (by omega) (i 1)) (show 2 = 2 + (j 0).val by omega) h1).trans
      (landed_at m ρ true c f hf 0 (by decide) _ _ rfl rfl rfl)))

end Cert.Halo

end
-- ==== Proof.Steps.lean ====
/-
# The kernel's statements, one lemma each

Almost every statement of the kernel is guarded by whether there is a neighbour on a side. Each lemma here runs one
guarded statement in front of any rest of the program, whichever way the test falls, from what it needs to what it
leaves.
-/
module

public import proofs.«01_k».proof.Proof.Rows

@[expose] public section

noncomputable section

namespace Cert.Halo

open Cert.KernelIdeal Cert.KernelIdeal.Gen Cert.Stencil

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 5 → ℕ)

/-- Device `c` runs `p` and then has `Q`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- Device `c` owes `O`, whatever it has waited for. -/
def owing (c : Dev nD) (O : CellTallies nD τ sig Unit) : sProp 𝕄 := iprop(∃ W, owes (c : Thread nD τ) O W)

/-- Half a share of the whole of `x`, for the loads; and the result's buffer. -/
def xLoad (c : Dev nD) : sProp 𝕄 := ((c : Thread nD τ).loc cc0_stg0_0) ↦{fullShare.left} xstg m ρ c
def oPts (c : Dev nD) (g : (cc0_stg1_0 : Ref sig .tc).ty.Contents (Elt F)) : sProp 𝕄 :=
  ((c : Thread nD τ).loc cc0_stg1_0) ↦{fullShare} (g : Buf (Elt F) ((c : Thread nD τ).loc cc0_stg1_0))

omit [FloatOps F] in
theorem opt_true {b : Bool} (h : b = true) (R : sProp 𝕄) : opt b R = R := if_pos h
omit [FloatOps F] in
theorem opt_false {b : Bool} (h : ¬ b = true) (R : sProp 𝕄) : opt b R = iprop(emp) := if_neg h

omit [FloatOps F] in
theorem inv_send (d : Bool) (c : Dev nD) : records (F := F) m ρ K ⊢ cellInv ER (sched m ρ) (K (c, sIx d)) (sendCell d c) := by
  rw [← kcell_send]; exact rec_inv m ρ K (c, sIx d)
omit [FloatOps F] in
theorem inv_recv (d : Bool) (c : Dev nD) : records (F := F) m ρ K ⊢ cellInv ER (sched m ρ) (K (c, rIx d)) (recvCell d c) := by
  rw [← kcell_recv]; exact rec_inv m ρ K (c, rIx d)
omit [FloatOps F] in
theorem at_send (d : Bool) (c : Dev nD) : records (F := F) m ρ K ⊢ reached ER (sendCell d c) 0 := by
  rw [← kcell_send]; exact rec_reached m ρ K (c, sIx d)
omit [FloatOps F] in
theorem at_recv (d : Bool) (c : Dev nD) : records (F := F) m ρ K ⊢ reached ER (recvCell d c) 0 := by
  rw [← kcell_recv]; exact rec_reached m ρ K (c, rIx d)

/-! ## The signals -/

/-- The signal in direction `d`: pays the neighbour's barrier with `c`'s landing rows for copies from that neighbour. -/
theorem signal_step (d : Bool) (c : Dev nD) (O : CellTallies nD τ sig Unit) {p : Prop} [Decidable p] (hp : p ↔ has d c = true)
    (n : p → Dev nD) (hn : ∀ h, n h = peer d c) {α : Type} {Q : α → sProp 𝕄} {k : Prog (TpuEff nD τ sig (Elt F) Λ₀ .tc) α} :
    iprop(records m ρ K ∗ owing c (O + owedBar d c) ∗ dutyTok ER (barCell (peer d c)) 0 (!d) ∗ landAny (!d) c)
      ⊢ iprop(((owing c O ∗ opt (!has d c) (landAny (!d) c)) -∗ WP c k Q)
        -∗ WP c (if h : p then .op (.semSignal ((n h : Dev nD) : Thread nD τ) barS (1#32).toInt) (fun _ => k) else k) Q) := by
  by_cases hc : has d c = true
  · rw [dif_pos (hp.mpr hc), hn, opt_false (by rw [hc]; decide)]
    unfold owing owedBar
    rw [hc]
    iintro ⟨#HR, ⟨%W, HO⟩, Ht, Hl⟩ Hk
    iapply (Rounds.wp_signal 𝒱₀ ER (sched m ρ) (c : Thread nD τ) none (dst := (peer d c : Thread nD τ)) (κ := K (peer d c, 0))
      (d := !d) (by rw [duties_bar, Finset.mem_filter]; exact ⟨Finset.mem_univ _, (has_back d c).trans hc⟩)
      ((amount_bar m ρ (!d) (peer d c) 0).trans (by decide)) () O rfl) $$ [HO Ht Hl]
    · isplitr; · iapply (rec_inv m ρ K (peer d c, 0)); iexact HR
      isplitl [HO]; · iexact HO
      isplitl [Ht]; · iexact Ht
      isplitl [Hl]; · rw [payload_bar, peer_back]; iexact Hl
      iapply (rec_reached m ρ K (peer d c, 0)); iexact HR
    iintro HO
    iapply Hk
    isplitl [HO]; · iexists W; iexact HO
    iempintro
  · rw [dif_neg (fun h => hc (hp.mp h)), opt_true (by rw [Bool.not_eq_true _ |>.mp hc]; rfl)]
    unfold owedBar
    rw [Bool.not_eq_true _ |>.mp hc, show (false).toNat = 0 from rfl, tallyAt_zero, add_zero]
    iintro ⟨-, HO, -, Hl⟩ Hk
    iapply Hk
    isplitl [HO] <;> iassumption

/-! ## The barrier -/

/-- What the barrier hands over: the landing rows of each neighbour. -/
def barGot (c : Dev nD) : sProp 𝕄 := iprop(opt (has false c) (landAny false (peer false c)) ∗ opt (has true c) (landAny true (peer true c)))

/-- One wait that finishes the barrier, its first `j` units waited for already with the duties in `T`. -/
theorem bar_last (c : Dev nD) (j : ℕ) (T : Finset Bool) (hj : j + 1 = (has true c).toNat + (has false c).toNat)
    (hT : T ⊆ (sched (F := F) m ρ).duties (barCell c) 0)
    {α : Type} {Q : α → sProp 𝕄} {k : Prog (TpuEff nD τ sig (Elt F) Λ₀ .tc) α} :
    iprop(records m ρ K ∗ levAts L lv ∗ cred (tallyAt (barCell c) () 1) ∗ owing c (O₁ c) ∗ atPos ER (barCell c) 0 T j
        ∗ bigSep T (fun d => (sched (F := F) m ρ).payload (barCell c) 0 d))
      ⊢ iprop(((owing c (O₁ c) ∗ atPos ER (barCell c) 1 ∅ 0 ∗ barGot c) -∗ WP c k Q)
        -∗ WP c (.op (.semWait barS (1#32).toInt) (fun _ => k)) Q) := by
  have hsplit : iprop(bigSep T (fun d => (sched (F := F) m ρ).payload (barCell c) 0 d)
      ∗ bigSep ((sched (F := F) m ρ).duties (barCell c) 0 \ T) (fun d => (sched (F := F) m ρ).payload (barCell c) 0 d)) = barGot c :=
    (bigSep_sdiff_split hT).symm.trans (pays_bar m ρ c)
  rw [← hsplit]
  unfold owing
  iintro ⟨#HR, #Hlev, Hc, ⟨%W, HO⟩, Hat, HT⟩ Hk
  iapply (Rounds.wp_wait_rest_token 𝒱₀ ER (sched m ρ) (c : Thread nD τ) none (κ := K (c, 0)) (k' := 1)
      (wpE_semWait_eq 𝒱₀ (c : Thread nD τ) none Set.univ) (Set.mem_univ _) () (O := O₁ c) (W := W) (R := 0) (m := j) (T := T)
      (by rw [expect_bar]; exact hj)) $$ [Hc HO Hat]
  · isplitr; · iapply (rec_inv m ρ K (c, 0)); iexact HR
    isplitl [Hc]; · iexact Hc
    isplitl [HO]; · iexact HO
    isplitr; · iapply (mayWait_bar c); iexact Hlev
    iexact Hat
  iintro ⟨HO, Hat, -, Hpay⟩
  iapply Hk
  isplitl [HO]; · iexists _; iexact HO
  isplitl [Hat]; · iexact Hat
  isplitl [HT] <;> iassumption

/-- Every device has a neighbour. -/
theorem some_peer (c : Dev nD) : has true c = true ∨ has false c = true := by revert c; decide

/-- The two guarded waits on the barrier. -/
theorem bar_step (c : Dev nD) {p q : Prop} [Decidable p] [Decidable q] (hp : p ↔ has true c = true) (hq : q ↔ has false c = true)
    {α : Type} {Q : α → sProp 𝕄} {k : Prog (TpuEff nD τ sig (Elt F) Λ₀ .tc) α} :
    iprop(records m ρ K ∗ levAts L lv ∗ cred (tallyAt (barCell c) () ((has true c).toNat + (has false c).toNat)) ∗ owing c (O₁ c)
        ∗ atPos ER (barCell c) 0 ∅ 0)
      ⊢ iprop(((owing c (O₁ c) ∗ atPos ER (barCell c) 1 ∅ 0 ∗ barGot c) -∗ WP c k Q)
        -∗ WP c (if h : p then .op (.semWait barS (1#32).toInt) (fun _ => if h : q then .op (.semWait barS (1#32).toInt) (fun _ => k) else k)
            else if h : q then .op (.semWait barS (1#32).toInt) (fun _ => k) else k) Q) := by
  have one_wait : ∀ hj : 0 + 1 = (has true c).toNat + (has false c).toNat,
      iprop(records m ρ K ∗ levAts L lv ∗ cred (tallyAt (barCell c) () ((has true c).toNat + (has false c).toNat)) ∗ owing c (O₁ c)
        ∗ atPos ER (barCell c) 0 ∅ 0)
      ⊢ iprop(((owing c (O₁ c) ∗ atPos ER (barCell c) 1 ∅ 0 ∗ barGot c) -∗ WP c k Q)
        -∗ WP c (.op (.semWait barS (1#32).toInt) (fun _ => k)) Q) := fun hj => by
    rw [← hj]
    iintro ⟨#HR, #Hlev, Hc, HO, Hat⟩
    iapply (bar_last m ρ K c 0 ∅ hj (Finset.empty_subset _))
    isplitr; · iexact HR
    isplitr; · iexact Hlev
    isplitl [Hc]; · iexact Hc
    isplitl [HO]; · iexact HO
    isplitl [Hat]; · iexact Hat
    rw [bigSep_empty]; iempintro
  by_cases ht : has true c = true
  · by_cases hf : has false c = true
    · simp only [dif_pos (hp.mpr ht), dif_pos (hq.mpr hf)]
      have h2 : (has true c).toNat + (has false c).toNat = 1 + 1 := by rw [ht, hf]; rfl
      rw [h2, ← tallyAt_add]
      unfold owing
      iintro ⟨#HR, #Hlev, Hc, ⟨%W, HO⟩, Hat⟩ Hk
      ihave Hc := (cred_add _ _).1 $$ Hc
      icases Hc with ⟨Hc, Hc'⟩
      iapply (Rounds.wp_wait 𝒱₀ ER (sched m ρ) (c : Thread nD τ) none (κ := K (c, 0)) (sm := .reg barS) (k' := 1)
          (wpE_semWait_eq 𝒱₀ (c : Thread nD τ) none Set.univ) (Set.mem_univ _) (cr := Finsupp.single () 1)
          {((.reg barS : SemLoc sig), ())} (O := O₁ c) (W := W) (R := 0) (m := 0) (T := ∅)
          (by rw [Util.total_single]) (image_single_subset _ _ _)) $$ [Hc HO Hat]
      · isplitr; · iapply (rec_inv m ρ K (c, 0)); iexact HR
        isplitl [Hc]; · iexact Hc
        isplitl [HO]; · iexact HO
        isplitr; · iapply (mayWait_bar c); iexact Hlev
        iexact Hat
      iintro %S ⟨%hS, HO, Hat, Hpay⟩
      iapply (bar_last m ρ K c 1 S h2.symm hS.2.1) $$ [Hc' HO Hat Hpay]
      · isplitr; · iexact HR
        isplitr; · iexact Hlev
        isplitl [Hc']; · iexact Hc'
        isplitl [HO]; · unfold owing; iexists _; iexact HO
        isplitl [Hat]; · iexact Hat
        rw [Finset.sdiff_empty]; iexact Hpay
      unfold owing
      iexact Hk
    · simp only [dif_pos (hp.mpr ht), dif_neg (fun h => hf (hq.mp h))]
      exact one_wait (by rw [ht, Bool.not_eq_true _ |>.mp hf]; rfl)
  · by_cases hf : has false c = true
    · simp only [dif_neg (fun h => ht (hp.mp h)), dif_pos (hq.mpr hf)]
      exact one_wait (by rw [hf, Bool.not_eq_true _ |>.mp ht]; rfl)
    · exact absurd (some_peer c) (not_or.mpr ⟨ht, hf⟩)

/-! ## The copies -/

/-- After the copy's issue: the credit of its completion where it takes place, the rows themselves where not. -/
def back (d : Bool) (c : Dev nD) : sProp 𝕄 := if has d c then cred (tallyAt (sendCell d c) () N) else srcPts m ρ d c

/-- The copy in direction `d`: `c`'s edge rows into the neighbour's landing rows. -/
theorem send_step (d : Bool) (c : Dev nD) (O : CellTallies nD τ sig Unit) {p : Prop} [Decidable p] (hp : p ↔ has d c = true)
    (n : p → Dev nD) (hn : ∀ h, n h = peer d c)
    {hsc : ∀ h, (dst d : Memref sig ((n h : Dev nD) : Thread nD τ).2.kind .vmem S2x512 .bf16).view.ref.isScScratch = false}
    {hsrc : (src d).view.WordExact} {hdst : (dst d).view.WordExact}
    {hsem : ∀ h, DmaTarget.Typed .vmem (.dma (rS d)) (.remote ((n h : Dev nD) : Thread nD τ) (dst d) (.dma (sS d)) (hsc h))}
    {α : Type} {Q : α → sProp 𝕄} {k : Prog (TpuEff nD τ sig (Elt F) Λ₀ .tc) α} :
    iprop(records m ρ K ∗ owing c (O + owedRow d c) ∗ dutyTok ER (recvCell d (peer d c)) 0 false ∗ dutyTok ER (sendCell d c) 0 false
        ∗ srcPts m ρ d c ∗ opt (has d c) (landAny d (peer d c)))
      ⊢ iprop(((owing c O ∗ back m ρ d c) -∗ WP c k Q)
        -∗ WP c (if h : p then .op (.enqueueDma (src d) (.remote ((n h : Dev nD) : Thread nD τ) (dst d) (.dma (sS d)) (hsc h)) (.dma (rS d))
              hsrc hdst (hsem h)) (fun _ => k) else k) Q) := by
  by_cases hc : has d c = true
  · have run : ∀ (n' : Dev nD) (hn' : n' = peer d c) {hsc hsrc hdst hsem},
        iprop(records m ρ K ∗ owing c (O + owedRow d c) ∗ dutyTok ER (recvCell d (peer d c)) 0 false ∗ dutyTok ER (sendCell d c) 0 false
          ∗ srcPts m ρ d c ∗ landAny d (peer d c))
        ⊢ iprop(((owing c O ∗ cred (tallyAt (sendCell d c) () N)) -∗ WP c k Q)
          -∗ WP c (.op (.enqueueDma (src d) (.remote (n' : Thread nD τ) (dst d) (.dma (sS d)) hsc) (.dma (rS d)) hsrc hdst hsem) (fun _ => k)) Q) := by
      intro n' hn' hsc hsrc hdst hsem
      subst hn'
      unfold owing owedRow landAny
      rw [if_pos hc]
      iintro ⟨#HR, ⟨%W, HO⟩, Htr, Hts, Hs, ⟨%f, Hl⟩⟩ Hk
      iapply (Rounds.wp_send_pointsTo 𝒱₀ ER (sched m ρ) (c : Thread nD τ) none (κ₁ := K (c, sIx d)) (κ₂ := K (peer d c, rIx d))
        (sS := .dma (sS d)) (sem := .dma (rS d)) (q := fullShare.right) (fs := xstg m ρ c) (r₁ := 0) (r₂ := 0) (d₁ := false) (d₂ := false) (fd := f)
        (by rw [duties_send, one, if_pos hc]; exact Finset.mem_singleton_self _)
        (by rw [duties_recv, has_back, one, if_pos hc]; exact Finset.mem_singleton_self _)
        () () N (dst_credit d) (amount_send m ρ d false c 0) (amount_recv m ρ d false (peer d c) 0) O rfl (W := W)
        (by rw [payload_send]; exact BI.Entails.refl _)
        (by
          rw [payload_recv]; unfold landGot landPts
          iintro H
          iexists ((dst d).view.write (Elt F) f ((src d).view.read (Elt F) (xstg m ρ c)) Finset.univ)
          isplitr
          · ipureintro; rw [View.read_write_univ, peer_back]
          iexact H)) $$ [HO Htr Hts Hs Hl]
      · isplitr; · iapply (inv_send m ρ K d c); iexact HR
        isplitr; · iapply (inv_recv m ρ K d (peer d c)); iexact HR
        isplitl [Hs]; · unfold srcPts; iexact Hs
        isplitl [Hl]; · unfold landPts; iexact Hl
        isplitl [HO]; · iexact HO
        isplitl [Hts]; · iexact Hts
        isplitr; · iapply (at_send m ρ K d c); iexact HR
        isplitl [Htr]; · iexact Htr
        iapply (at_recv m ρ K d (peer d c)); iexact HR
      iintro ⟨Hcr, HO⟩
      iapply Hk
      isplitl [HO]; · iexists W; iexact HO
      iexact Hcr
    rw [dif_pos (hp.mpr hc), opt_true hc, back, if_pos hc]
    exact run _ (hn _)
  · rw [dif_neg (fun h => hc (hp.mp h)), back, if_neg hc]
    unfold owedRow
    rw [if_neg hc, tallyAt_zero, add_zero]
    iintro ⟨-, HO, -, -, Hs, -⟩ Hk
    iapply Hk
    isplitl [HO] <;> iassumption

/-! ## The waits on copies -/

/-- A wait for the one round of a copy's cell, which then closes. -/
theorem dma_wait (c : Dev nD) (i : Fin 5) (sm : DmaSem sig) (hi : kcell (c, i) = ((c : Thread nD τ), .dma sm)) (P : sProp 𝕄)
    (hE : (sched (F := F) m ρ).expect (kcell (c, i)) 0 = N)
    (hP : bigSep ((sched (F := F) m ρ).duties (kcell (c, i)) 0 \ ∅) (fun e => (sched (F := F) m ρ).payload (kcell (c, i)) 0 e) = P)
    {s t : Memref sig .tc .vmem S2x512 .bf16} (ht : t.view.dmaCredit = N) {hs : s.view.WordExact} {hw : t.view.WordExact}
    {α : Type} {Q : α → sProp 𝕄} {k : Prog (TpuEff nD τ sig (Elt F) Λ₀ .tc) α} :
    iprop(records m ρ K ∗ owing c 0 ∗ cred (tallyAt (kcell (c, i)) () N) ∗ atPos ER (kcell (c, i)) 0 ∅ 0)
      ⊢ iprop(((owing c 0 ∗ P ∗ semVal (kcell (c, i)) 0) -∗ WP c k Q) -∗ WP c (.op (.waitDma2 sm s t hs hw) (fun _ => k)) Q) := by
  unfold owing
  iintro ⟨#HR, ⟨%W, HO⟩, Hc, Hat⟩ Hk
  ihave #HI := (rec_inv m ρ K (c, i)) $$ HR
  rw [hi] at hE hP ⊢
  iapply (Rounds.wp_wait_rest_token 𝒱₀ ER (sched m ρ) (c : Thread nD τ) none (κ := K (c, i)) (k' := t.view.dmaCredit)
      (wpE_waitDma2_eq 𝒱₀ (c : Thread nD τ) none Set.univ) (Set.mem_univ _) () (O := 0) (W := W) (R := 0) (m := 0) (T := ∅)
      (by rw [Nat.zero_add, ht]; exact hE.symm)) $$ [Hc HO Hat]
  · isplitr; · iexact HI
    isplitl [Hc]; · rw [ht]; iexact Hc
    isplitl [HO]; · iexact HO
    isplitr; · rw [MayWait_zero]; iempintro
    iexact Hat
  rw [hP]
  iintro ⟨HO, Hat, -, HP⟩
  imod (Rounds.cell_close ER (sched m ρ) (Set.mem_univ (K (c, i))) (fun h => h) (R := 0 + 1) (duties_later m ρ _)) $$ [Hat] with Hz
  · isplitr; · iexact HI
    iexact Hat
  iapply Hk
  isplitl [HO]; · iexists _; iexact HO
  isplitl [HP] <;> iassumption

omit [FloatOps F] in
/-- A cell nothing is ever paid into closes at once. -/
theorem close_idle (c : Dev nD) (i : Fin 5) (h : (sched (F := F) m ρ).duties (kcell (c, i)) 0 = ∅) :
    iprop(records m ρ K ∗ atPos ER (kcell (c, i)) 0 ∅ 0) ⊢ iprop(|={Set.univ}=> semVal (kcell (c, i)) 0 : sProp 𝕄) :=
  (sep_mono_left (rec_inv m ρ K (c, i))).trans (Rounds.cell_close ER (sched m ρ) (Set.mem_univ (K (c, i))) (fun h => h) (R := 0)
    (fun r _ => by
      rcases Nat.eq_zero_or_pos r with rfl | hr
      · exact h
      · exact duties_later m ρ _ r hr))

theorem src_credit (d : Bool) : (src d).view.dmaCredit = N := by cases d <;> rfl

/-- The wait for the completion of the copy in direction `d`: the edge rows are `c`'s again, and the cell closes. -/
theorem sent_step (d : Bool) (c : Dev nD) {p : Prop} [Decidable p] (hp : p ↔ has d c = true)
    {hs : (dst d).view.WordExact} {hw : (src d).view.WordExact}
    {α : Type} {Q : α → sProp 𝕄} {k : Prog (TpuEff nD τ sig (Elt F) Λ₀ .tc) α} :
    iprop(records m ρ K ∗ owing c 0 ∗ back m ρ d c ∗ atPos ER (sendCell d c) 0 ∅ 0)
      ⊢ iprop(((owing c 0 ∗ srcPts m ρ d c ∗ semVal (sendCell d c) 0) -∗ WP c k Q)
        -∗ WP c (if h : p then .op (.waitDma2 (sS d) (dst d) (src d) hs hw) (fun _ => k) else k) Q) := by
  by_cases hc : has d c = true
  · rw [dif_pos (hp.mpr hc), back, if_pos hc, ← kcell_send]
    exact dma_wait m ρ K c (sIx d) (sS d) (kcell_send d c) _ (by rw [kcell_send]; exact expect_send m ρ d c hc)
      (by rw [kcell_send]; exact pays_send m ρ d c hc) (src_credit d)
  · rw [dif_neg (fun h => hc (hp.mp h)), back, if_neg hc, ← kcell_send]
    iintro ⟨#HR, HO, Hs, Hat⟩ Hk
    imod (close_idle m ρ K c (sIx d) (by rw [kcell_send, duties_send, one, if_neg hc])) $$ [Hat] with Hz
    · isplitr; · iexact HR
      iexact Hat
    iapply Hk
    isplitl [HO]; · iexact HO
    isplitl [Hs] <;> iassumption

/-- The wait for the landing of a copy in direction `d`: the landing rows hold the edge rows of the peer behind. -/
theorem landed_step (d : Bool) (c : Dev nD) (hc : has (!d) c = true)
    {hs : (src d).view.WordExact} {hw : (dst d).view.WordExact}
    {α : Type} {Q : α → sProp 𝕄} {k : Prog (TpuEff nD τ sig (Elt F) Λ₀ .tc) α} :
    iprop(records m ρ K ∗ owing c 0 ∗ cred (tallyAt (recvCell d c) () N) ∗ atPos ER (recvCell d c) 0 ∅ 0)
      ⊢ iprop(((owing c 0 ∗ landGot m ρ d c ∗ semVal (recvCell d c) 0) -∗ WP c k Q)
        -∗ WP c (.op (.waitDma2 (rS d) (src d) (dst d) hs hw) (fun _ => k)) Q) := by
  rw [← kcell_recv]
  exact dma_wait m ρ K c (rIx d) (rS d) (kcell_recv d c) _ (by rw [kcell_recv]; exact expect_recv m ρ d c hc)
    (by rw [kcell_recv]; exact pays_recv m ρ d c hc) (dst_credit d)

end Cert.Halo

end
-- ==== Proof.Edges.lean ====
/-
# The edge rows, and the rows lent to the copies

The statements that make the first and the last row of the result, each run in front of any rest of the program; and the
parting of `x` into what the loads read and what the copies are lent.
-/
module

public import proofs.«01_k».proof.Proof.Steps

@[expose] public section

noncomputable section

namespace Cert.Halo

open Cert.KernelIdeal Cert.KernelIdeal.Gen Cert.Stencil

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 5 → ℕ)

/-- The contents of the result's buffer. -/
abbrev OutC (F : FTy → Type) : Type := (cc0_stg1_0 : Ref sig .tc).ty.Contents (Elt F)

/-- The result's buffer with contents that satisfy `A`. -/
def oSat (c : Dev nD) (A : OutC F → Prop) : sProp 𝕄 := iprop(∃ g, ⌜A g⌝ ∗ oPts c g)

section Ops
variable (c : Dev nD) {α : Type}

/-- A load of rows of `x`. -/
theorem x_step {Q : α → sProp 𝕄} {r k : ℕ} {inb : ∀ a, ![r, 0] a + (SK k).size a ≤ (SK 512).size a} {hl : xM.view.LoadsAt (rowsOf 512 r k inb).toLoadRect}
    {kk : (Vec F (SK k) .bf16) → Prog (TpuEff nD τ sig (Elt F) Λ₀ .tc) α} :
    xLoad m ρ c ⊢ iprop((xLoad m ρ c -∗ WP c (kk (xM.view.readAt (Elt F) (rowsOf 512 r k inb).toLoadRect (xstg m ρ c))) Q)
      -∗ WP c (.op (.load xM (rowsOf 512 r k inb).toLoadRect hl) kk) Q) := by
  unfold xLoad
  exact wp_load 𝒱₀ (c : Thread nD τ) none Set.univ (m := xM) (Finset.subset_univ _)

/-- A load of rows of the result's buffer. -/
theorem o_step {Q : α → sProp 𝕄} {r k : ℕ} {inb : ∀ a, ![r, 0] a + (SK k).size a ≤ (SK 512).size a} {hl : oM.view.LoadsAt (rowsOf 512 r k inb).toLoadRect}
    (g : OutC F) {kk : (Vec F (SK k) .bf16) → Prog (TpuEff nD τ sig (Elt F) Λ₀ .tc) α} :
    oPts c g ⊢ iprop((oPts c g -∗ WP c (kk (oM.view.readAt (Elt F) (rowsOf 512 r k inb).toLoadRect g)) Q)
      -∗ WP c (.op (.load oM (rowsOf 512 r k inb).toLoadRect hl) kk) Q) := by
  unfold oPts
  exact wp_load 𝒱₀ (c : Thread nD τ) none Set.univ (m := oM) (Finset.subset_univ _)

/-- A store of rows of the result: the load of the rows around them and the store of those. -/
theorem store_step {Q : α → sProp 𝕄} {r k p s : ℕ} {inb : ∀ a, ![r, 0] a + (SK k).size a ≤ (SK 512).size a} {hsl : (SK k).Slices ![s, 0] (SK p)}
    (g : OutC F) {pay : Vec F (SK p) .bf16}
    {hl : oM.view.LoadsAt (rowsOf 512 r k inb).toLoadRect} {hs : (oM.access (rowsOf 512 r k inb)).Stores Finset.univ}
    {hm} {kk : Prog (TpuEff nD τ sig (Elt F) Λ₀ .tc) α} :
    oPts c g ⊢ iprop((oPts c (stored inb hsl g pay) -∗ WP c kk Q)
      -∗ WP c (.op (.load oM (rowsOf 512 r k inb).toLoadRect hl) fun old =>
          .op (.store oM (rowsOf 512 r k inb) (updateSlice old pay ![s, 0] hsl) Finset.univ hs hm) fun _ => kk) Q) := by
  iintro Ho Hk
  iapply (o_step c g) $$ Ho
  iintro Ho
  unfold oPts
  iapply (wp_store 𝒱₀ (c : Thread nD τ) none Set.univ (m := oM) (r := rowsOf 512 r k inb) (Mk := Finset.univ) (Finset.subset_univ _)) $$ Ho
  iexact Hk

/-- A load of one landing row. -/
theorem h_step {Q : α → sProp 𝕄} (d : Bool) {r : ℕ} {inb : ∀ a, ![r, 0] a + (SK 1).size a ≤ (SK 4).size a} (hr : dstRow d ≤ r ∧ r < dstRow d + 2)
    {hl : hM.view.LoadsAt (rowsOf 4 r 1 inb).toLoadRect} (f : (cc0_scratch0 : Ref sig .tc).ty.Contents (Elt F))
    {kk : (Vec F (SK 1) .bf16) → Prog (TpuEff nD τ sig (Elt F) Λ₀ .tc) α} :
    landPts d c f ⊢ iprop((landPts d c f -∗ WP c (kk (hM.view.readAt (Elt F) (rowsOf 4 r 1 inb).toLoadRect f)) Q)
      -∗ WP c (.op (.load hM (rowsOf 4 r 1 inb).toLoadRect hl) kk) Q) := by
  unfold landPts
  refine wp_load 𝒱₀ (c : Thread nD τ) none Set.univ (m := hM) ?_
  have e : hM.view.setOn (rowsOf 4 r 1 inb).toLoadRect.set = (rowsOf 4 r 1 inb).set :=
    (View.set_slice hM.view (rowsOf 4 r 1 inb)).symm.trans (View.set_slice_whole _ _)
  have e' : (dst d).view.set = (rowsOf 4 (dstRow d) 2 (dst_inb d)).set := View.set_slice_whole _ _
  rw [e, e']
  intro i hi
  have hi' := (rows_mem inb i).mp hi
  exact (rows_mem (dst_inb d) i).mpr ⟨by omega, by omega⟩

end Ops

/-! ## A row copied, where there is no neighbour -/

/-- The statement that copies one row of `x` to the result where a device has no neighbour (`b` is whether it has one):
    contents that satisfied `A` then satisfy `B`. -/
theorem copy_step (c : Dev nD) (b : Bool) {p : Prop} [Decidable p] (hp : p ↔ ¬ b = true)
    {r r' s : ℕ} {inb0 : ∀ a, ![r, 0] a + (SK 1).size a ≤ (SK 512).size a} {inb : ∀ a, ![r', 0] a + (SK 2).size a ≤ (SK 512).size a}
    {hsl : (SK 2).Slices ![s, 0] (SK 1)} (pay : (Vec F (SK 1) .bf16) → Vec F (SK 1) .bf16) (A B : OutC F → Prop)
    (hAB : ¬ b = true → ∀ g, A g → B (stored inb hsl g (pay (xM.view.readAt (Elt F) (rowsOf 512 r 1 inb0).toLoadRect (xstg m ρ c)))))
    {h0 : xM.view.LoadsAt (rowsOf 512 r 1 inb0).toLoadRect} {h1 : oM.view.LoadsAt (rowsOf 512 r 1 inb0).toLoadRect}
    {hl : oM.view.LoadsAt (rowsOf 512 r' 2 inb).toLoadRect} {hs : (oM.access (rowsOf 512 r' 2 inb)).Stores Finset.univ} {hm}
    {α : Type} {Q : α → sProp 𝕄} {k : Prog (TpuEff nD τ sig (Elt F) Λ₀ .tc) α} :
    iprop(xLoad m ρ c ∗ oSat c A)
      ⊢ iprop(((xLoad m ρ c ∗ oSat c (fun g => if b = true then A g else B g)) -∗ WP c k Q)
        -∗ WP c (if h : p then
            .op (.load xM (rowsOf 512 r 1 inb0).toLoadRect h0) fun (v : Vec F (SK 1) .bf16) =>
            .op (.load oM (rowsOf 512 r 1 inb0).toLoadRect h1) fun _ =>
            .op (.load oM (rowsOf 512 r' 2 inb).toLoadRect hl) fun old =>
            .op (.store oM (rowsOf 512 r' 2 inb) (updateSlice old (pay v) ![s, 0] hsl) Finset.univ hs hm) fun _ => k
          else k) Q) := by
  unfold oSat
  by_cases hb : b = true
  · rw [dif_neg (fun h => hp.mp h hb)]
    simp only [if_pos hb]
    iintro ⟨Hx, Ho⟩ Hk
    iapply Hk
    isplitl [Hx] <;> iassumption
  · rw [dif_pos (hp.mpr hb)]
    simp only [if_neg hb]
    iintro ⟨Hx, ⟨%g, %hg, Ho⟩⟩ Hk
    iapply (x_step m ρ c) $$ Hx; iintro Hx
    iapply (o_step c g) $$ Ho; iintro Ho
    iapply (store_step c g) $$ Ho; iintro Ho
    iapply Hk
    isplitl [Hx]; · iexact Hx
    iexists (stored inb hsl g (pay (xM.view.readAt (Elt F) (rowsOf 512 r 1 inb0).toLoadRect (xstg m ρ c))))
    isplitr; · ipureintro; exact hAB hb g hg
    iexact Ho

/-! ## A row blended with a landed one, where there is a neighbour -/

/-- A statement guarded by a neighbour on the side copies in direction `d` come from, which waits for the landing and
    then runs `body`: what `body` makes of contents that satisfy `A` satisfies `B`. Either way the landing cell closes
    and the landing rows are the device's own. -/
theorem blend_step (d : Bool) (c : Dev nD) {p : Prop} [Decidable p] (hp : p ↔ has (!d) c = true)
    (A B : OutC F → Prop) {hs : (src d).view.WordExact} {hw : (dst d).view.WordExact}
    {α : Type} {Q : α → sProp 𝕄} {body k : Prog (TpuEff nD τ sig (Elt F) Λ₀ .tc) α}
    (hbody : has (!d) c = true → ∀ f g, (dst d).view.read (Elt F) f = (src d).view.read (Elt F) (xstg m ρ (peer (!d) c)) → A g →
      iprop(xLoad m ρ c ∗ landPts d c f ∗ oPts c g) ⊢ iprop(((xLoad m ρ c ∗ landPts d c f ∗ oSat c B) -∗ WP c k Q) -∗ WP c body Q)) :
    iprop(records m ρ K ∗ owing c 0 ∗ cred (tallyAt (recvCell d c) () (if has (!d) c then N else 0)) ∗ atPos ER (recvCell d c) 0 ∅ 0
        ∗ opt (!has (!d) c) (landAny d c) ∗ xLoad m ρ c ∗ oSat c (fun g => if has (!d) c = true then A g else B g))
      ⊢ iprop(((owing c 0 ∗ landAny d c ∗ semVal (recvCell d c) 0 ∗ xLoad m ρ c ∗ oSat c B) -∗ WP c k Q)
        -∗ WP c (if h : p then .op (.waitDma2 (rS d) (src d) (dst d) hs hw) (fun _ => body) else k) Q) := by
  by_cases hc : has (!d) c = true
  · rw [dif_pos (hp.mpr hc), if_pos hc]
    simp only [if_pos hc]
    iintro ⟨#HR, HO, Hc, Hat, -, Hx, Ho⟩ Hk
    iapply (landed_step m ρ K d c hc) $$ [HO Hc Hat]
    · isplitr; · iexact HR
      isplitl [HO]; · iexact HO
      isplitl [Hc] <;> iassumption
    unfold landGot
    iintro ⟨HO, ⟨%f, %hf, Hl⟩, Hz⟩
    unfold oSat
    icases Ho with ⟨%g, %hg, Ho⟩
    iapply (hbody hc f g hf hg) $$ [Hx Hl Ho]
    · isplitl [Hx]; · iexact Hx
      isplitl [Hl] <;> iassumption
    iintro ⟨Hx, Hl, Ho⟩
    iapply Hk
    isplitl [HO]; · iexact HO
    isplitl [Hl]; · unfold landAny; iexists f; iexact Hl
    isplitl [Hz]; · iexact Hz
    isplitl [Hx]; · iexact Hx
    unfold oSat; iexact Ho
  · rw [dif_neg (fun h => hc (hp.mp h)), opt_true (by rw [Bool.not_eq_true _ |>.mp hc]; rfl)]
    simp only [if_neg hc]
    iintro ⟨#HR, HO, -, Hat, Hl, Hx, Ho⟩ Hk
    rw [← kcell_recv]
    imod (close_idle m ρ K c (rIx d) (by rw [kcell_recv, duties_recv, one, if_neg hc])) $$ [Hat] with Hz
    · isplitr; · iexact HR
      iexact Hat
    iapply Hk
    isplitl [HO]; · iexact HO
    isplitl [Hl]; · iexact Hl
    isplitl [Hz]; · iexact Hz
    isplitl [Hx] <;> iassumption

/-- The first row, blended. -/
theorem first_step (c : Dev nD) {p : Prop} [Decidable p] (hp : p ↔ has (!false) c = true)
    {inbh inb0 inb1 inb hsl} {hs : (src false).view.WordExact} {hw : (dst false).view.WordExact}
    {hh : hM.view.LoadsAt (rowsOf 4 1 1 inbh).toLoadRect} {h0 : xM.view.LoadsAt (rowsOf 512 0 1 inb0).toLoadRect}
    {h1 : xM.view.LoadsAt (rowsOf 512 1 1 inb1).toLoadRect} {h2 : oM.view.LoadsAt (rowsOf 512 0 1 inb0).toLoadRect}
    {hl : oM.view.LoadsAt (rowsOf 512 0 2 inb).toLoadRect} {hst : (oM.access (rowsOf 512 0 2 inb)).Stores Finset.univ} {hm}
    {α : Type} {Q : α → sProp 𝕄} {k : Prog (TpuEff nD τ sig (Elt F) Λ₀ .tc) α} :
    iprop(records m ρ K ∗ owing c 0 ∗ cred (tallyAt (recvCell false c) () (if has (!false) c then N else 0)) ∗ atPos ER (recvCell false c) 0 ∅ 0
        ∗ opt (!has (!false) c) (landAny false c) ∗ xLoad m ρ c
        ∗ oSat c (fun g => if has (!false) c = true then Agrees m ρ c 1 511 g else Agrees m ρ c 0 511 g))
      ⊢ iprop(((owing c 0 ∗ landAny false c ∗ semVal (recvCell false c) 0 ∗ xLoad m ρ c ∗ oSat c (Agrees m ρ c 0 511)) -∗ WP c k Q)
        -∗ WP c (if h : p then
            .op (.waitDma2 (rS false) (src false) (dst false) hs hw) fun _ =>
            .op (.load hM (rowsOf 4 1 1 inbh).toLoadRect hh) fun a =>
            .op (.load xM (rowsOf 512 0 1 inb0).toLoadRect h0) fun b =>
            .op (.load xM (rowsOf 512 1 1 inb1).toLoadRect h1) fun b' =>
            .op (.load oM (rowsOf 512 0 1 inb0).toLoadRect h2) fun _ =>
            .op (.load oM (rowsOf 512 0 2 inb).toLoadRect hl) fun old =>
            .op (.store oM (rowsOf 512 0 2 inb) (updateSlice old (k0_pay3 a b b') ![0, 0] hsl) Finset.univ hst hm) fun _ => k
          else k) Q) := by
  refine blend_step m ρ K false c hp (Agrees m ρ c 1 511) (Agrees m ρ c 0 511) fun hc f g hf hg => ?_
  iintro ⟨Hx, Hl, Ho⟩ Hk
  iapply (h_step c false (r := 1) (by decide) f) $$ Hl; iintro Hl
  iapply (x_step m ρ c) $$ Hx; iintro Hx
  iapply (x_step m ρ c) $$ Hx; iintro Hx
  iapply (o_step c g) $$ Ho; iintro Ho
  iapply (store_step c g) $$ Ho; iintro Ho
  iapply Hk
  isplitl [Hx]; · iexact Hx
  isplitl [Hl]; · iexact Hl
  unfold oSat
  iexists (stored inb hsl g (k0_pay3 (hM.view.readAt (Elt F) (rowsOf 4 1 1 inbh).toLoadRect f)
    (xM.view.readAt (Elt F) (rowsOf 512 0 1 inb0).toLoadRect (xstg m ρ c)) (xM.view.readAt (Elt F) (rowsOf 512 1 1 inb1).toLoadRect (xstg m ρ c))))
  isplitr; · ipureintro; exact first_blend m ρ c hc inbh inb0 inb1 inb hsl g hg f hf
  iexact Ho

/-- The last row, blended. -/
theorem last_step (c : Dev nD) {p : Prop} [Decidable p] (hp : p ↔ has (!true) c = true)
    {inbh inb0 inb1 inb hsl} {hs : (src true).view.WordExact} {hw : (dst true).view.WordExact}
    {hh : hM.view.LoadsAt (rowsOf 4 2 1 inbh).toLoadRect} {h0 : xM.view.LoadsAt (rowsOf 512 510 1 inb0).toLoadRect}
    {h1 : xM.view.LoadsAt (rowsOf 512 511 1 inb1).toLoadRect} {h2 : oM.view.LoadsAt (rowsOf 512 511 1 inb1).toLoadRect}
    {hl : oM.view.LoadsAt (rowsOf 512 510 2 inb).toLoadRect} {hst : (oM.access (rowsOf 512 510 2 inb)).Stores Finset.univ} {hm}
    {α : Type} {Q : α → sProp 𝕄} {k : Prog (TpuEff nD τ sig (Elt F) Λ₀ .tc) α} :
    iprop(records m ρ K ∗ owing c 0 ∗ cred (tallyAt (recvCell true c) () (if has (!true) c then N else 0)) ∗ atPos ER (recvCell true c) 0 ∅ 0
        ∗ opt (!has (!true) c) (landAny true c) ∗ xLoad m ρ c
        ∗ oSat c (fun g => if has (!true) c = true then Agrees m ρ c 0 511 g else Agrees m ρ c 0 512 g))
      ⊢ iprop(((owing c 0 ∗ landAny true c ∗ semVal (recvCell true c) 0 ∗ xLoad m ρ c ∗ oSat c (Agrees m ρ c 0 512)) -∗ WP c k Q)
        -∗ WP c (if h : p then
            .op (.waitDma2 (rS true) (src true) (dst true) hs hw) fun _ =>
            .op (.load xM (rowsOf 512 510 1 inb0).toLoadRect h0) fun b =>
            .op (.load xM (rowsOf 512 511 1 inb1).toLoadRect h1) fun b' =>
            .op (.load hM (rowsOf 4 2 1 inbh).toLoadRect hh) fun a =>
            .op (.load oM (rowsOf 512 511 1 inb1).toLoadRect h2) fun _ =>
            .op (.load oM (rowsOf 512 510 2 inb).toLoadRect hl) fun old =>
            .op (.store oM (rowsOf 512 510 2 inb) (updateSlice old (k0_pay5 b b' a) ![1, 0] hsl) Finset.univ hst hm) fun _ => k
          else k) Q) := by
  refine blend_step m ρ K true c hp (Agrees m ρ c 0 511) (Agrees m ρ c 0 512) fun hc f g hf hg => ?_
  iintro ⟨Hx, Hl, Ho⟩ Hk
  iapply (x_step m ρ c) $$ Hx; iintro Hx
  iapply (x_step m ρ c) $$ Hx; iintro Hx
  iapply (h_step c true (r := 2) (by decide) f) $$ Hl; iintro Hl
  iapply (o_step c g) $$ Ho; iintro Ho
  iapply (store_step c g) $$ Ho; iintro Ho
  iapply Hk
  isplitl [Hx]; · iexact Hx
  isplitl [Hl]; · iexact Hl
  unfold oSat
  iexists (stored inb hsl g (k0_pay5 (xM.view.readAt (Elt F) (rowsOf 512 510 1 inb0).toLoadRect (xstg m ρ c))
    (xM.view.readAt (Elt F) (rowsOf 512 511 1 inb1).toLoadRect (xstg m ρ c)) (hM.view.readAt (Elt F) (rowsOf 4 2 1 inbh).toLoadRect f)))
  isplitr; · ipureintro; exact last_blend m ρ c hc inbh inb0 inb1 inb hsl g hg f hf
  iexact Ho

/-! ## Parting `x` and the scratch -/

theorem src_set (d : Bool) : (src d).view.set = (rowsOf 512 (srcRow d) 2 (src_inb d)).set := View.set_slice_whole _ _
theorem dst_set (d : Bool) : (dst d).view.set = (rowsOf 4 (dstRow d) 2 (dst_inb d)).set := View.set_slice_whole _ _

/-- What is left of the second half share of `x` when both pairs of edge rows are lent. -/
def xRest (c : Dev nD) : sProp 𝕄 :=
  ((c : Thread nD τ).loc cc0_stg0_0) ↦[(Finset.univ \ (src false).view.set) \ (src true).view.set]{fullShare.right} xstg m ρ c

omit [FloatOps F] in
/-- The whole of `x`: a half share for the loads, and of the other half the two pairs of edge rows and the rest. -/
theorem x_parts (c : Dev nD) :
    ((((c : Thread nD τ).loc cc0_stg0_0) ↦{fullShare} xstg m ρ c) : sProp 𝕄)
      ⊣⊢ iprop(xLoad m ρ c ∗ srcPts m ρ false c ∗ srcPts m ρ true c ∗ xRest m ρ c) := by
  have hsub : (src true).view.set ⊆ Finset.univ \ (src false).view.set := by
    intro i hi
    rw [Finset.mem_sdiff]
    refine ⟨Finset.mem_univ _, fun hi' => ?_⟩
    rw [src_set] at hi hi'
    have h1 := (rows_mem (src_inb true) i).mp hi
    have h2 := (rows_mem (src_inb false) i).mp hi'
    simp only [srcRow] at h1 h2
    omega
  refine (pointsTo_share (PosShare.mem_left_op_right fullShare)).trans (sep_congr .rfl ?_)
  refine (pointsTo_split_subset (Finset.subset_univ (src false).view.set)).trans (sep_congr .rfl ?_)
  exact pointsTo_split_subset hsub

/-- The landing rows of the two directions share no element, -/
theorem dst_disjoint : Disjoint (dst false).view.set (dst true).view.set := by
  rw [Finset.disjoint_left]
  intro i hi hi'
  rw [dst_set] at hi hi'
  have h1 := (rows_mem (dst_inb false) i).mp hi
  have h2 := (rows_mem (dst_inb true) i).mp hi'
  simp only [dstRow] at h1 h2
  omega

/-- and are the whole scratch. -/
theorem dst_union : (dst false).view.set ∪ (dst true).view.set = Finset.univ := by
  ext i
  rw [dst_set, dst_set]
  simp only [Finset.mem_union, Finset.mem_univ, iff_true]
  rcases Nat.lt_or_ge (i 0).val 2 with h | h
  · exact Or.inl ((rows_mem (dst_inb false) i).mpr ⟨Nat.zero_le _, h⟩)
  · exact Or.inr ((rows_mem (dst_inb true) i).mpr ⟨h, row_lt i⟩)

omit [FloatOps F] in
/-- The whole scratch gives the two pairs of landing rows, -/
theorem land_split (c : Dev nD) :
    iprop(∃ f : Buf (Elt F) ((c : Thread nD τ).loc cc0_scratch0), ((c : Thread nD τ).loc cc0_scratch0) ↦{fullShare} f)
      ⊢ iprop(landAny false c ∗ landAny true c : sProp 𝕄) := by
  iintro ⟨%f, H⟩
  rw [← dst_union]
  ihave H2 := (pointsTo_union dst_disjoint).1 $$ H
  icases H2 with ⟨H0, H1⟩
  unfold landAny landPts
  isplitl [H0]
  · iexists f; iexact H0
  · iexists f; iexact H1

omit [FloatOps F] in
/-- and they give it back. -/
theorem land_join (c : Dev nD) :
    iprop(landAny false c ∗ landAny true c : sProp 𝕄)
      ⊢ iprop(∃ f : Buf (Elt F) ((c : Thread nD τ).loc cc0_scratch0), ((c : Thread nD τ).loc cc0_scratch0) ↦{fullShare} f) := by
  unfold landAny landPts
  iintro ⟨⟨%f, H0⟩, ⟨%g, H1⟩⟩
  ihave H := (pointsTo_join (ℓ := (c : Thread nD τ).loc cc0_scratch0) (f := f) (g := g) dst_disjoint) $$ [H0 H1]
  · isplitl [H0] <;> iassumption
  rw [dst_union]
  iexists _
  iexact H

end Cert.Halo

end
-- ==== Proof.Body.lean ====
/-
# The kernel on one device

The whole body, statement by statement, from what a device starts with to what it ends with: `x` as it was, the block of
the result, the scratch, and every semaphore at zero.
-/
module

public import proofs.«01_k».proof.Proof.Edges

@[expose] public section

noncomputable section

namespace Cert.Halo

open Cert.KernelIdeal Cert.KernelIdeal.Gen Cert.Stencil

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## What the tests say -/

/-- The word a device reads of whether there is a neighbour before it, and of one after it. -/
abbrev beforeWord (c : Dev nD) : BitVec 1 := Scalar.cmpi .sgt (Scalar.remsi (Scalar.divsi (Dev.word c) 1#32) 4#32) 0#32
abbrev afterWord (c : Dev nD) : BitVec 1 := Scalar.cmpi .slt (Scalar.remsi (Scalar.divsi (Dev.word c) 1#32) 4#32) 3#32

theorem no_before (c : Dev nD) : Scalar.cmpi .ne (Scalar.extui (Scalar.xori (beforeWord c) 1#1) : BitVec 32) 0#32 = 1#1 ↔ ¬ has true c = true := by
  revert c; decide +kernel
theorem no_after (c : Dev nD) : Scalar.cmpi .ne (Scalar.extui (Scalar.xori (afterWord c) 1#1) : BitVec 32) 0#32 = 1#1 ↔ ¬ has false c = true := by
  revert c; decide +kernel

/-! ## The body -/

/-- The pipeline takes one step. -/
abbrev t₀ : Fin cfg0.N := (0 : Fin 1)
theorem fin_N (t : Fin cfg0.N) : t = t₀ := Subsingleton.elim (α := Fin 1) t t₀

omit [FloatOps F] in
theorem bigSep_W (Φ : Fin cfg0.W → sProp 𝕄) : bigSep Finset.univ Φ = iprop(Φ (0 : Fin 2) ∗ Φ (1 : Fin 2)) := bigSep_W0 Φ

/-- The block of `x` is fetched at the one step there is. -/
theorem x_fetched (t : Fin cfg0.N) : (cfg0.win (0 : Fin 2)).fetch t = true := by rw [fin_N t]; rfl

/-- A staging buffer with the contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
/-- To own a whole buffer at a value is to hold it with that value as its contents. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns stg; simp only [Memref.view_whole, View.read_whole, View.set_whole]

/-- What the body starts from, the names of the cells' invariants given. -/
def bodyPre (K : Dev nD × Fin 5 → ℕ) (c : Dev nD) : sProp 𝕄 :=
  iprop((ghost m ρ K c ∗ credits c ∗ levAts L lv ∗ landAny false c ∗ landAny true c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- What it leaves. -/
def bodyPost (c : Dev nD) : sProp 𝕄 :=
  iprop(Φ₁ c ∗ (dats m ρ 0 c).owesAt () t₀.succ ∗ stg c cc0_stg0_0 (xstg m ρ c) ∗ stg c cc0_stg1_0 (outAt m ρ c))

/-- Contents that agree with the block of the result on every row are that block. -/
theorem agrees_all (c : Dev nD) (g : OutC F) (h : Agrees m ρ c 0 512 g) : g = outAt m ρ c :=
  funext fun i => h i (Nat.zero_le _) (row_lt i)

omit [FloatOps F] in
theorem out_pts (c : Dev nD) (g : OutC F) :
    ((((c : Thread nD τ).loc cc0_stg1_0) ↦{fullShare} (g : Buf (Elt F) ((c : Thread nD τ).loc cc0_stg1_0))) : sProp 𝕄) ⊢ oPts c g := BI.Entails.refl _

omit [FloatOps F] in
theorem sat_intro (c : Dev nD) (g : OutC F) (A : OutC F → Prop) (h : A g) : (oPts c g : sProp 𝕄) ⊢ oSat c A := by
  unfold oSat
  iintro H
  iexists g
  isplitr; · ipureintro; exact h
  iexact H

set_option maxHeartbeats 1600000 in
set_option maxRecDepth 4000 in
/-- The body, one statement after another. -/
theorem sound_body (K : Dev nD × Fin 5 → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  rw [cc0_body_eq_skeleton]; unfold cc0_body_skel; rw [k0_part1_eq_skeleton]; unfold k0_part1_skel
  rw [wp_bind]
  simp -zeta only [semSignalWord, semWaitWord, storeSubelements, Prog.lift, Prog.bind_op, Prog.bind_ret, Prog.pure_eq_ret]
  rw [wp_deviceId]
  unfold bodyPre ghost positions payTok credits
  iintro ⟨⟨⟨⟨#HR, ⟨HaB, HaSf, HaSt, HaRf, HaRt⟩, ⟨HtBf, HtRf, HtSf⟩, HtBt, HtRt, HtSt⟩, ⟨HcB, HcRf, HcRt⟩, #Hlev, Hlf, Hlt⟩,
    Ho, ⟨%d0, %g0, %hg0, Hx⟩, ⟨%d1, %g1, %hg1, Hout⟩⟩, Hk⟩
  have hx : g0 = xstg m ρ c := by rw [hg0]; unfold Dat.before; rw [if_pos (x_fetched t₀)]; rfl
  subst hx
  unfold Dat.owesAt Pipeline.owesWithin
  icases Ho with ⟨%W, %hW, HO⟩
  rw [show (dats m ρ 0 c).owed t₀.castSucc = O₁ c + owedBar false c + owedBar true c from rfl]
  ihave Hxs := (x_parts m ρ c).1 $$ Hx
  icases Hxs with ⟨Hx, Hsf, Hst, Hxr⟩
  -- the signals to both neighbours
  iapply (signal_step m ρ K true c (O₁ c + owedBar false c) (cond1_iff c) (fun h => ⟨k0_dev1 c, k0_dev1_lt c h⟩)
    (fun h => dev1_eq c ((cond1_iff c).mp h) _)) $$ [HO HtBt Hlf]
  · isplitr; · iexact HR
    isplitl [HO]; · unfold owing; iexists W; iexact HO
    isplitl [HtBt]; · iexact HtBt
    iexact Hlf
  iintro ⟨HO, Hlf⟩
  iapply (signal_step m ρ K false c (O₁ c) (cond2_iff c) (fun h => ⟨k0_dev2 c, k0_dev2_lt c h⟩)
    (fun h => dev2_eq c ((cond2_iff c).mp h) _)) $$ [HO HtBf Hlt]
  · isplitr; · iexact HR
    isplitl [HO]; · iexact HO
    isplitl [HtBf]; · iexact HtBf
    iexact Hlt
  iintro ⟨HO, Hlt⟩
  -- the waits for theirs, which bring their landing rows
  iapply (bar_step m ρ K c (cond1_iff c) (cond2_iff c)) $$ [HO HcB HaB]
  · isplitr; · iexact HR
    isplitr; · iexact Hlev
    isplitl [HcB]; · iexact HcB
    isplitl [HO]; · iexact HO
    iexact HaB
  unfold barGot
  iintro ⟨HO, HaB, Hpf, Hpt⟩
  -- the copies
  rw [O₁]
  iapply (send_step m ρ K false c (owedRow true c) (cond5_iff c) (fun h => ⟨k0_dev3 c, k0_dev3_lt c h⟩)
    (fun h => dev3_eq c ((cond5_iff c).mp h) _)) $$ [HO HtRf HtSf Hsf Hpf]
  · isplitr; · iexact HR
    isplitl [HO]; · iexact HO
    isplitl [HtRf]; · iexact HtRf
    isplitl [HtSf]; · iexact HtSf
    isplitl [Hsf]; · iexact Hsf
    iexact Hpf
  iintro ⟨HO, Hbf⟩
  rw [← zero_add (owedRow true c)]
  iapply (send_step m ρ K true c 0 (cond6_iff c) (fun h => ⟨k0_dev4 c, k0_dev4_lt c h⟩)
    (fun h => dev4_eq c ((cond6_iff c).mp h) _)) $$ [HO HtRt HtSt Hst Hpt]
  · isplitr; · iexact HR
    isplitl [HO]; · iexact HO
    isplitl [HtRt]; · iexact HtRt
    isplitl [HtSt]; · iexact HtSt
    isplitl [Hst]; · iexact Hst
    iexact Hpt
  iintro ⟨HO, Hbt⟩
  -- the rows between the first and the last
  iapply (x_step m ρ c) $$ Hx; iintro Hx
  iapply (x_step m ρ c) $$ Hx; iintro Hx
  unfold WP; rw [wp_ret]; imodintro
  dsimp -zeta only
  iapply (x_step m ρ c) $$ Hx; iintro Hx
  ihave Ho := (out_pts c g1) $$ Hout
  iapply (o_step c g1) $$ Ho; iintro Ho
  iapply (store_step c g1) $$ Ho; iintro Ho
  ihave Ho := (sat_intro c _ (Agrees m ρ c 1 511) (inner_agrees m ρ c _ _ _ _ _ g1)) $$ Ho
  -- the first row
  iapply (copy_step m ρ c (has true c) (no_before c) k0_pay2 (Agrees m ρ c 1 511) (Agrees m ρ c 0 511)
    (fun hb g hg => first_copy m ρ c hb _ _ _ g hg)) $$ [Hx Ho]
  · isplitl [Hx]; · iexact Hx
    iexact Ho
  iintro ⟨Hx, Ho⟩
  iapply (first_step m ρ K c (cond1_iff c)) $$ [HO HcRf HaRf Hlf Hx Ho]
  · isplitr; · iexact HR
    isplitl [HO]; · iexact HO
    isplitl [HcRf]; · iexact HcRf
    isplitl [HaRf]; · iexact HaRf
    isplitl [Hlf]; · iexact Hlf
    isplitl [Hx]; · iexact Hx
    iexact Ho
  iintro ⟨HO, Hlf, HzRf, Hx, Ho⟩
  -- the last row
  iapply (copy_step m ρ c (has false c) (no_after c) k0_pay4 (Agrees m ρ c 0 511) (Agrees m ρ c 0 512)
    (fun hb g hg => last_copy m ρ c hb _ _ _ g hg)) $$ [Hx Ho]
  · isplitl [Hx]; · iexact Hx
    iexact Ho
  iintro ⟨Hx, Ho⟩
  iapply (last_step m ρ K c (cond2_iff c)) $$ [HO HcRt HaRt Hlt Hx Ho]
  · isplitr; · iexact HR
    isplitl [HO]; · iexact HO
    isplitl [HcRt]; · iexact HcRt
    isplitl [HaRt]; · iexact HaRt
    isplitl [Hlt]; · iexact Hlt
    isplitl [Hx]; · iexact Hx
    iexact Ho
  iintro ⟨HO, Hlt, HzRt, Hx, Ho⟩
  -- the completions of the two copies
  iapply (sent_step m ρ K false c (cond5_iff c)) $$ [HO Hbf HaSf]
  · isplitr; · iexact HR
    isplitl [HO]; · iexact HO
    isplitl [Hbf]; · iexact Hbf
    iexact HaSf
  iintro ⟨HO, Hsf, HzSf⟩
  iapply (sent_step m ρ K true c (cond6_iff c)) $$ [HO Hbt HaSt]
  · isplitr; · iexact HR
    isplitl [HO]; · iexact HO
    isplitl [Hbt]; · iexact Hbt
    iexact HaSt
  iintro ⟨HO, Hst, HzSt⟩
  unfold WP
  -- the barrier's cell closes
  imod (Rounds.cell_close ER (sched m ρ) (Set.mem_univ (K (c, 0))) (fun h => h) (R := 1) (duties_later m ρ (barCell c))) $$ [HaB] with HzB
  · isplitr; · iapply (rec_inv m ρ K (c, 0)); iexact HR
    iexact HaB
  rw [wp_ret]; imodintro
  iapply Hk
  unfold bodyPost Φ₁ Dat.owesAt Pipeline.owesWithin
  rw [show (dats m ρ 0 c).owed t₀.succ = 0 from rfl]
  isplitl [Hlf Hlt HzB HzSf HzSt HzRf HzRt]
  · isplitl [Hlf]; · iexact Hlf
    isplitl [Hlt]; · iexact Hlt
    isplitl [HzB]; · iexact HzB
    isplitl [HzSf]; · iexact HzSf
    isplitl [HzSt]; · iexact HzSt
    isplitl [HzRf]; · iexact HzRf
    iexact HzRt
  isplitl [HO]
  · unfold owing
    icases HO with ⟨%W', HO⟩
    iexists W'
    isplitr; · ipureintro; exact fun _ _ => Or.inl trivial
    iexact HO
  isplitl [Hx Hsf Hst Hxr]
  · iexists (xstg m ρ c)
    isplitr; · ipureintro; rfl
    iapply (x_parts m ρ c).2
    isplitl [Hx]; · iexact Hx
    isplitl [Hsf]; · iexact Hsf
    isplitl [Hst]; · iexact Hst
    iexact Hxr
  · unfold oSat oPts
    icases Ho with ⟨%g, %hg, Ho⟩
    iexists g
    isplitr; · ipureintro; exact agrees_all m ρ c g hg
    iexact Ho

/-- The pipeline's obligation for its one step. -/
theorem body_obligation (c : Dev nD) : BodyObligation (dats (F := F) m ρ 0 c) (defs₀ (F := F)) 𝒱₀ () Set.univ := fun t => by
  rw [fin_N t]
  rw [bigSep_W, bigSep_W]
  simp only [owns_whole]
  show iprop(Φ₀ m ρ c ∗ (dats m ρ 0 c).owesAt () t₀.castSucc
      ∗ (∃ d, stg c cc0_stg0_0 ((dats m ρ 0 c).before (0 : Fin 2) t₀ d))
      ∗ (∃ d, stg c cc0_stg1_0 ((dats m ρ 0 c).before (1 : Fin 2) t₀ d)))
    ⊢ wp frame (wpE (defs₀ (F := F)) 𝒱₀ c none) Set.univ
      (cc0_body (Memref.whole cc0_stg0_0) (Memref.isWhole_whole _) (Memref.whole cc0_stg1_0) (Memref.isWhole_whole _)
        (Memref.whole cc0_scratch0) (Memref.isWhole_whole _) cc0_scratch1 cc0_scratch2) (fun _ => bodyPost m ρ c)
  unfold Φ₀ start
  iintro ⟨⟨⟨⟨%K, Hg⟩, Hc, Hlev⟩, Hl⟩, Ho, Hx, Hout⟩
  iapply (sound_body m ρ K c fun _ => bodyPost m ρ c)
  unfold bodyPre
  isplitr []
  · isplitl [Hg Hc Hlev Hl]
    · isplitl [Hg]; · iexact Hg
      isplitl [Hc]; · iexact Hc
      isplitl [Hlev]; · iexact Hlev
      iexact Hl
    isplitl [Ho]; · iexact Ho
    isplitl [Hx] <;> iassumption
  · iintro H; iexact H

end Cert.Halo

end
-- ==== Proof.Launch.lean ====
/-
# The launch

From zero counters and any memory: the cells of the exchange are set up on every device at once, the duty tokens go to
the devices that pay them, and each device's credits are what the others owe it. Then the run of the whole program on
the four devices.
-/
module

public import proofs.«01_k».proof.Proof.Body
public import Idealize.ShloMosaic.Lib.Pipeline.CollectiveSegs

@[expose] public section

noncomputable section

namespace Cert.Halo

open Cert.KernelIdeal Cert.KernelIdeal.Gen Cert.Stencil

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide

theorem kcell_injective : Function.Injective (kcell : Dev nD × Fin 5 → GSem nD τ sig) := fun a b h =>
  Prod.ext (congrArg (fun g : GSem nD τ sig => g.1.1) h) (csem_injective (congrArg Prod.snd h))

/-- The cells of the exchange. -/
def allCells : Finset (GSem nD τ sig) := Finset.univ.map ⟨kcell, kcell_injective⟩

/-- The tokens minted: for a device and a direction, its barrier's duty of the peer behind, the landing at it, its send. -/
abbrev tokSem (j : Fin 3) (d : Bool) : SemLoc sig := match j with
  | 0 => .reg barS | 1 => .dma (rS d) | 2 => .dma (sS d)
abbrev tokDuty (j : Fin 3) (d : Bool) : Bool := match j with | 0 => !d | 1 => false | 2 => false
abbrev tokOf (x : Dev nD × Bool × Fin 3) : GSem nD τ sig × ℕ × Bool :=
  (((x.1 : Thread nD τ), tokSem x.2.2 x.2.1), 0, tokDuty x.2.2 x.2.1)

theorem tok_inj : Function.Injective (fun y : Bool × Fin 3 => (tokSem y.2 y.1, tokDuty y.2 y.1)) := by decide

theorem tokOf_injective : Function.Injective tokOf := fun a b h =>
  Prod.ext (congrArg (fun x : GSem nD τ sig × ℕ × Bool => x.1.1.1) h)
    (tok_inj (congrArg (fun x : GSem nD τ sig × ℕ × Bool => (x.1.2, x.2.2)) h))

def allToks : Finset (GSem nD τ sig × ℕ × Bool) := Finset.univ.map ⟨tokOf, tokOf_injective⟩

/-- The ghost state the launch begins with: the pipeline's and the exchange's. -/
def u₀ : UU :=
  (initOf (Pipeline.cells cfgs cellOf_inj) (Pipeline.launchToks cfgs cellOf_inj), initOf allCells allToks)

/-- The tokens of direction `d` at device `c`'s own cells. -/
def ownTok (d : Bool) (c : Dev nD) : sProp 𝕄 :=
  iprop(dutyTok ER (barCell c) 0 (!d) ∗ dutyTok ER (recvCell d c) 0 false ∗ dutyTok ER (sendCell d c) 0 false)

/-- What device `c` is dealt of it: its cells' round states, its positions, the tokens at its own cells. -/
def G (c : Dev nD) : sProp 𝕄 :=
  iprop((bigSep Finset.univ fun k : Fin 5 => roundState ER (sched m ρ) (kcell (c, k)) 0)
    ∗ (bigSep Finset.univ fun k : Fin 5 => iprop(atPos ER (kcell (c, k)) 0 ∅ 0 ∗ reached ER (kcell (c, k)) 0))
    ∗ ownTok false c ∗ ownTok true c)

/-- What it holds once the cells are set up. -/
def G' (c : Dev nD) : sProp 𝕄 := iprop(∃ K, ghost m ρ K c)

omit [FloatOps F] in
theorem bigSep_bool (Φ : Bool → sProp 𝕄) : bigSep Finset.univ Φ = iprop(Φ false ∗ Φ true) :=
  bigSep_univ_eq_bigSepL [false, true] (by decide) (by decide) Φ
omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ
omit [FloatOps F] in
theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

omit [FloatOps F] in
/-- The exchange's ghost state, dealt to the devices. -/
theorem fund_all : BI.own (ER (initOf allCells allToks)) ⊢ (|==> bigSep Finset.univ (G m ρ) : sProp 𝕄) := by
  have hX (Φ : GSem nD τ sig → sProp 𝕄) :
      bigSep allCells Φ = bigSep Finset.univ fun c : Dev nD => bigSep Finset.univ fun k : Fin 5 => Φ (kcell (c, k)) := by
    unfold allCells; rw [bigSep_map, bigSep_univ_prod]; rfl
  have hT : bigSep allToks (fun x => (dutyTok ER x.1 x.2.1 x.2.2 : sProp 𝕄))
      = bigSep Finset.univ fun c : Dev nD => iprop(ownTok false c ∗ ownTok true c) := by
    unfold allToks; rw [bigSep_map, bigSep_univ_prod]
    refine bigSep_congr fun c _ => ?_
    rw [bigSep_univ_prod, bigSep_bool, bigSep_fin3, bigSep_fin3]
    rfl
  iintro HX
  imod (Rounds.fund ER (sched m ρ) allCells allToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The four transfer semaphores are the kernel's own; -/
theorem ownSems0_eq (c : Dev nD) : (Pipeline.ownSems0 (Ix := Unit) (Name := ℕ) (U := UU) (Lvl := ℕ) (Val := Elt F) (τ := τ) osem c : sProp 𝕄)
    = iprop(semVal (sendCell false c) 0 ∗ semVal (sendCell true c) 0 ∗ semVal (recvCell false c) 0 ∗ semVal (recvCell true c) 0) := by
  rw [Pipeline.ownSems0_eq_of_list c osem [0, 1, 2, 3] (by decide) (by decide)]; rfl
omit [FloatOps F] in
/-- the barrier is the one semaphore that outlives it. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- On one device: counters at zero and round states make the five invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0))
          ∗ ownTok false c ∗ ownTok true c) := by
  have make : iprop((bigSep Finset.univ fun k : Fin 5 => semVal (kcell (c, k)) 0) ∗ bigSep Finset.univ fun k : Fin 5 => roundState ER (sched m ρ) (kcell (c, k)) 0)
      ⊢ (|={Set.univ}=> bigSep Finset.univ fun k => iprop(∃ κ : ℕ, cellInv ER (sched m ρ) κ (kcell (c, k))) : sProp 𝕄) := by
    rw [← bigSep_sep']
    exact (bigSep_mono fun k _ => (Rounds.body_intro ER (sched m ρ) (kcell (c, k))).trans inv_alloc).trans (bigSep_fupd _ _)
  unfold G
  rw [ownSems0_eq, unscopedSems0_eq]
  iintro ⟨⟨HSf, HSt, HVf, HVt⟩, HB, Hst, Hat, Htok⟩
  imod make $$ [HSf HSt HVf HVt HB Hst] with Hinv
  · isplitr [Hst]
    · rw [bigSep_fin5]
      isplitl [HB]; · iexact HB
      isplitl [HSf]; · iexact HSf
      isplitl [HSt]; · iexact HSt
      isplitl [HVf] <;> iassumption
    · iexact Hst
  imodintro
  isplitl [Hinv]; · iexact Hinv
  isplitl [Hat]; · iexact Hat
  iexact Htok

omit [FloatOps F] in
/-- The tokens go round to the devices that pay with them. -/
theorem toks_move (d : Bool) : (bigSep Finset.univ fun c : Dev nD => (ownTok d c : sProp 𝕄)) = bigSep Finset.univ fun c : Dev nD => payTok d c := by
  unfold ownTok payTok
  rw [bigSep_sep', bigSep_sep', bigSep_sep', bigSep_sep',
    bigSep_univ_equiv (ring d) (fun c : Dev nD => (dutyTok ER (barCell c) 0 (!d) : sProp 𝕄)),
    bigSep_univ_equiv (ring d) (fun c : Dev nD => (dutyTok ER (recvCell d c) 0 false : sProp 𝕄))]
  rfl

omit [FloatOps F] in
/-- The positions on the five cells are a device's positions. -/
theorem positions_eq : (bigSep Finset.univ fun c : Dev nD => bigSep Finset.univ fun k : Fin 5 => (atPos ER (kcell (c, k)) 0 ∅ 0 : sProp 𝕄))
    = bigSep Finset.univ fun c : Dev nD => (positions c : sProp 𝕄) :=
  bigSep_congr fun c _ => by unfold positions; rw [bigSep_fin5]

omit [FloatOps F] in
/-- Invariants, positions and tokens, put together device by device. -/
theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0))
          ∗ ownTok false c ∗ ownTok true c) : sProp 𝕄)
      ⊢ bigSep Finset.univ (G' m ρ) := by
  rw [bigSep_sep', bigSep_sep', bigSep_sep', toks_move, toks_move,
    ← bigSep_univ_prod (fun ck : Dev nD × Fin 5 => iprop(∃ κ : ℕ, cellInv ER (sched m ρ) κ (kcell ck))),
    bigSep_congr (s := Finset.univ) (fun (c : Dev nD) _ => bigSep_sep' Finset.univ (fun k : Fin 5 => (atPos ER (kcell (c, k)) 0 ∅ 0 : sProp 𝕄)) (fun k => reached ER (kcell (c, k)) 0)),
    bigSep_sep', ← bigSep_univ_prod (fun ck : Dev nD × Fin 5 => (reached ER (kcell ck) 0 : sProp 𝕄))]
  iintro ⟨HI, ⟨Hat, #HR⟩, Htf, Htt⟩
  ihave HK := (BI.bigSep_exists_pi Finset.univ (fun (ck : Dev nD × Fin 5) (κ : ℕ) => (cellInv ER (sched m ρ) κ (kcell ck) : sProp 𝕄))) $$ HI
  icases HK with ⟨%K, #HI⟩
  have each : ∀ c ∈ (Finset.univ : Finset (Dev nD)), iprop(records m ρ K ∗ positions c ∗ payTok false c ∗ payTok true c) ⊢ G' m ρ c := fun c _ => by
    unfold G' ghost
    iintro H
    iexists K
    iexact H
  have share : iprop(records m ρ K ∗ bigSep Finset.univ fun c : Dev nD => iprop(positions c ∗ payTok false c ∗ payTok true c)) ⊢ bigSep Finset.univ (G' m ρ) :=
    (sep_mono_left (BI.bigSep_of_persistent Finset.univ (records m ρ K))).trans (by rw [← bigSep_sep']; exact bigSep_mono each)
  iapply share
  isplitr
  · unfold records; isplitl; · iexact HI
    iexact HR
  rw [bigSep_sep', bigSep_sep']
  isplitl [Hat]
  · iapply (Entails.of_eq (positions_eq (F := F)))
    iexact Hat
  isplitl [Htf] <;> iassumption

omit [FloatOps F] in
/-- The setting up, on all devices at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credits -/

omit [FloatOps F] in
/-- Where every device owes some amount on one semaphore of its peer in a direction, a device is credited what the peer
    behind it owes. -/
theorem moved_cred (d : Bool) (sm : SemLoc sig) (n : Dev nD → ℕ) (c : Dev nD) :
    (Pipeline.launchCred (fun b : Dev nD => (tallyAt ((peer d b : Thread nD τ), sm) () (n b) : CellTallies nD τ sig Unit)) c : sProp 𝕄)
      = cred (tallyAt ((c : Thread nD τ), sm) () (n (peer (!d) c))) := by
  refine Pipeline.launchCred_of_sum _ (fun c : Dev nD => tallyAt ((c : Thread nD τ), sm) () (n (peer (!d) c))) ?_ ?_ c
  · refine (Finset.sum_congr rfl fun b _ => ?_).trans (Equiv.sum_comp (ring d) _)
    show _ = tallyAt ((peer d b : Thread nD τ), sm) () (n (peer (!d) (peer d b)))
    rw [peer_back]
  · intro b g hg
    by_contra h
    refine hg (Finsupp.ext fun u => ?_)
    rw [tallyAt_apply, if_neg fun h' => h (congrArg Prod.fst h'.1)]
    rfl

omit [FloatOps F] in
/-- A device's launch credits are its neighbours' signals and landings. -/
theorem creds (c : Dev nD) : (Pipeline.launchCred O₀ c : sProp 𝕄) ⊢ credits c := by
  have hrow (d : Bool) : (Pipeline.launchCred (owedRow d) c : sProp 𝕄) = cred (tallyAt (recvCell d c) () (if has (!d) c then N else 0)) :=
    (moved_cred d (.dma (rS d)) (fun b => if has d b then N else 0) c).trans (by rw [has_back'])
  have hbar (d : Bool) : (Pipeline.launchCred (owedBar d) c : sProp 𝕄) = cred (tallyAt (barCell c) () (has (!d) c).toNat) :=
    (moved_cred d (.reg barS) (fun b => (has d b).toNat) c).trans (by rw [has_back'])
  rw [show O₀ = fun b => (owedRow true b + owedRow false b + owedBar false b) + owedBar true b from rfl,
    Pipeline.launchCred_add, Pipeline.launchCred_add, Pipeline.launchCred_add, hrow, hrow, hbar, hbar]
  unfold credits
  rw [← tallyAt_add]
  iintro ⟨⟨⟨Ht, Hf⟩, Hb⟩, Hb'⟩
  isplitl [Hb Hb']
  · iapply (cred_add _ _).2
    isplitl [Hb]; · iexact Hb
    iexact Hb'
  isplitl [Hf]; · iexact Hf
  iexact Ht

/-! ## The ends of the run -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iapply (land_split c)
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  iintro ⟨Hf, Ht, HB, HS⟩
  isplitl [HB]; · iexact HB
  isplitl [HS]; · iexact HS
  iapply (land_join c)
  isplitl [Hf] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- A device's two arrays after the run. -/
def finalA (c : Dev nD) (w : Fin cfg0.W) : Buf (Elt F) ((cfg0.win w).arr.view.loc (c : Thread nD τ)) := (dats m ρ 0 c).arrAt w cfg0.N

set_option maxRecDepth 8000 in
/-- For any float values, from any memory with zero counters, every fair run of the four devices ends, with every array
    at its final contents and every semaphore counter at zero. -/
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- `x` is after the run what it was. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.Halo

end
-- ==== Proof.Value.lean ====
/-
# The values

What the program's result holds after the run: on each device its block of the stencil of the whole array; and what the
reference computes on the whole array is that stencil.
-/
module

public import proofs.«01_k».proof.Proof.Launch
public import proofs.«01_k».proof.Proof.Gen.ReferenceIdeal.Run
public import Idealize.ShloMosaic.Lib.Pipeline.Value

@[expose] public section

noncomputable section

namespace Cert.Halo

open Cert.KernelIdeal Cert.KernelIdeal.Gen Cert.Stencil

open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- The block of `x` that a device's kernel finds is the whole of its argument. -/
theorem xstg_eq (c : Dev nD) : xstg m ρ c = m ((c : Thread nD τ).loc main_arg0) :=
  Memref.read_access_unit_zero (Elt F) main_arg0 (off := fun a => win0_0.index (0 : Fin 1) a * main_arg0.ty.shape.size a)
    (funext fun a => by fin_cases a <;> decide) (fun a => by fin_cases a <;> decide) _

/-- The result's one block, read out of its array after the run, is what the body left. -/
theorem result_read (c : Dev nD) : (win0_1.blk (0 : Fin 1)).view.read (Elt F) (finalA m ρ c (1 : Fin 2)) = outAt m ρ c := by
  unfold finalA
  rw [show cfg0.N = ((0 : Fin 1) : Fin cfg0.N).val + 1 from rfl, (dats m ρ 0 c).arrAt_succ (1 : Fin 2) (0 : Fin 1),
    show (cfg0.win (1 : Fin 2)).flush (0 : Fin 1) = true from by decide, if_pos rfl]
  exact View.read_write_univ _ _

/-- The result's array after the run is what the body left. -/
theorem result_eq (c : Dev nD) : finalA m ρ c (1 : Fin 2) = outAt m ρ c :=
  (Memref.read_access_unit_zero (Elt F) main_v1 (off := fun a => win0_1.index (0 : Fin 1) a * main_v1.ty.shape.size a)
    (funext fun a => by fin_cases a <;> decide) (fun a => by fin_cases a <;> decide) _).symm.trans (result_read m ρ c)

/-- From arguments that are the blocks of one whole array, each device's result ends as its block of the stencil of it. -/
theorem result_block (G : Stencil.S2048x512.Idx → F .bf16)
    (h : ∀ c : Dev nD, m ((c.tc : Thread nD τ).loc main_arg0) = Layout.block ⟨2, ![512, 512]⟩ ⟨2, ![2048, 512]⟩ 0 4 c G) (c : Dev nD) :
    finalA m ρ c (1 : Fin 2) = Layout.block ⟨2, ![512, 512]⟩ ⟨2, ![2048, 512]⟩ 0 4 c (stencil G) := by
  have hG : glue (fun c => xstg m ρ c) = G := glue_block (fun c => xstg m ρ c) G fun c => (xstg_eq m ρ c).trans (h c)
  rw [result_eq]
  unfold outAt outBlk
  rw [hG]

end Cert.Halo

namespace Cert.Reference

open Cert.ReferenceIdeal Cert.ReferenceIdeal.Gen
open Cert.Stencil hiding S2048x512

open Idealize.ShloMosaic
open Idealize.ShloMosaic.TcCoe
open Idealize.SL.Sem

variable {F : FTy → Type} [FloatOps F]

/-- The inner rows as the reference computes them: three shifted copies of the array, weighted and added. -/
def inner (G : S2048x512.Idx → F .bf16) : S2046x512.Idx → F .bf16 :=
  addf (addf (mulf (broadcastInDim S2046x512 ![] bcast_S_S2046x512 (constant S_ .bf16 0x3E80#16)) (extractStridedSlice S2046x512 ![0, 0] G slices_S2048x512_S2046x512_0_0))
      (mulf (broadcastInDim S2046x512 ![] bcast_S_S2046x512 (constant S_ .bf16 0x3F00#16)) (extractStridedSlice S2046x512 ![1, 0] G slices_S2048x512_S2046x512_1_0)))
    (mulf (broadcastInDim S2046x512 ![] bcast_S_S2046x512 (constant S_ .bf16 0x3E80#16)) (extractStridedSlice S2046x512 ![2, 0] G slices_S2048x512_S2046x512_2_0))

/-- The three pieces of the reference's result: the first row, the inner rows, the last row. -/
abbrev pieces (G : S2048x512.Idx → F .bf16) : List ((s : Shape) × (s.Idx → F .bf16)) :=
  [⟨S1x512, extractStridedSlice S1x512 ![0, 0] G slices_S2048x512_S1x512_0_0⟩, ⟨S2046x512, inner G⟩,
    ⟨S1x512, extractStridedSlice S1x512 ![2047, 0] G slices_S2048x512_S1x512_2047_0⟩]

/-- The reference's result as a function of its argument. -/
def refOut (G : S2048x512.Idx → F .bf16) : S2048x512.Idx → F .bf16 :=
  concatenate S2048x512 0 (pieces G) concatenates_S1x512_S2046x512_S1x512_S2048x512_d0

omit [FloatOps F] in
/-- A slice of whole rows from row `r` on, read at a row, is the array read `r` rows further. -/
theorem slice_at {n r : ℕ} (G : S2048x512.Idx → F .bf16) (hs : S2048x512.Slices ![r, 0] ⟨2, ![n, 512]⟩)
    (j : (⟨2, ![n, 512]⟩ : Shape).Idx) (k : S2048x512.Idx) (h0 : (k 0).val = r + (j 0).val) (h1 : (k 1).val = (j 1).val) :
    extractStridedSlice ⟨2, ![n, 512]⟩ ![r, 0] G hs j = G k :=
  extractStridedSlice_apply _ _ _ _ _ fun a => match a with
    | ⟨0, _⟩ => h0
    | ⟨1, _⟩ => h1.trans (Nat.zero_add _).symm

/-- An inner row is the blend of the rows around it. -/
theorem inner_at (G : S2048x512.Idx → F .bf16) (j : S2046x512.Idx) (k₀ k₁ k₂ : S2048x512.Idx)
    (h₀ : (k₀ 0).val = 0 + (j 0).val) (h₁ : (k₁ 0).val = 1 + (j 0).val) (h₂ : (k₂ 0).val = 2 + (j 0).val)
    (c₀ : (k₀ 1).val = (j 1).val) (c₁ : (k₁ 1).val = (j 1).val) (c₂ : (k₂ 1).val = (j 1).val) :
    inner G j = blend (G k₀) (G k₁) (G k₂) := by
  rw [← slice_at G slices_S2048x512_S2046x512_0_0 j k₀ h₀ c₀, ← slice_at G slices_S2048x512_S2046x512_1_0 j k₁ h₁ c₁,
    ← slice_at G slices_S2048x512_S2046x512_2_0 j k₂ h₂ c₂]
  rfl

/-- A row of the reference's result is row `i` of the piece that holds it. -/
theorem piece_at (G : S2048x512.Idx → F .bf16) (j : S2048x512.Idx) (k : ℕ) (hk : k < (pieces G).length) (n : ℕ)
    (x : (⟨2, ![n, 512]⟩ : Shape).Idx → F .bf16) (hx : (pieces G)[k] = ⟨⟨2, ![n, 512]⟩, x⟩) (pre : ℕ)
    (hpre : ((((pieces G).take k).map (·.1)).map fun s => if h : s.rank = S2048x512.rank then s.size ((0 : Fin 2).cast h.symm) else 0).sum = pre)
    (i : (⟨2, ![n, 512]⟩ : Shape).Idx) (h0 : pre + (i 0).val = (j 0).val) (h1 : (i 1).val = (j 1).val) :
    refOut G j = x i :=
  concatenate_apply_piece (0 : Fin 2) (pieces G) _ j k hk _ x hx rfl pre hpre i
    (fun b hb => match b with
      | ⟨0, _⟩ => absurd rfl hb
      | ⟨1, _⟩ => h1) h0

/-- What the reference computes is the stencil of its argument. -/
theorem refOut_eq (G : S2048x512.Idx → F .bf16) : refOut G = stencil G := by
  funext j
  have hj := row_lt j
  unfold stencil
  by_cases hf : (j 0).val = 0
  · rw [dif_pos (Or.inl hf), piece_at G j 0 (show 0 < 3 by decide) 1 _ rfl 0 rfl (at2 0 (by decide) (j 1)) hf.symm rfl]
    exact slice_at G _ _ j (by rw [hf]; rfl) rfl
  · by_cases hl : (j 0).val = 2047
    · rw [dif_pos (Or.inr hl), piece_at G j 2 (show 2 < 3 by decide) 1 _ rfl 2047 rfl (at2 0 (by decide) (j 1)) hl.symm rfl]
      exact slice_at G _ _ j (by rw [hl]; rfl) rfl
    · rw [dif_neg fun h => h.elim hf hl,
        piece_at G j 1 (show 1 < 3 by decide) 2046 _ rfl 1 rfl (at2 ((j 0).val - 1) (by omega) (j 1)) (by show 1 + ((j 0).val - 1) = _; omega) rfl]
      exact inner_at G _ _ _ _ (by show (j 0).val - 1 = 0 + ((j 0).val - 1); omega) (by show _ = 1 + ((j 0).val - 1); omega)
        (by show (j 0).val + 1 = 2 + ((j 0).val - 1); omega) rfl rfl rfl

/-- The reference runs from any memory: its result ends as the stencil of its argument, and its argument as it was. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13) = stencil (m ((c.tc : Thread nD τ).loc main_arg0))
      ∧ r.2.mem ((c.tc : Thread nD τ).loc main_arg0) = m ((c.tc : Thread nD τ).loc main_arg0) :=
  (θ_run defs _ _).mono (fun _ h c => ⟨(h c).1.trans (refOut_eq _), (h c).2⟩) (Value.run m ρ)

end Cert.Reference

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem

/-- The two programs are the same text, so their kernels' bodies are the same -/
theorem bodies_eq {F : FTy → Type} [FloatOps F] : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (t, s) => rfl

/-- and so are their pipelines. -/
theorem defs_eq {F : FTy → Type} [FloatOps F] : Cert.Kernel.defs (F := F) = Cert.KernelIdeal.defs (F := F) := by
  unfold Cert.Kernel.defs
  rw [bodies_eq]
  rfl

/-- The kernel runs at the machine's bit patterns: the run proved for any float values, read at the argument. -/
theorem frame_kernel : Cert.quiescent_Kernel := fun m ρ _ => by
  rw [defs_eq]
  exact (θ_run Cert.KernelIdeal.defs _ _).mono (fun _ h => ⟨fun c => (h.1 c (0 : Fin 2)).trans (Cert.Halo.finalA_x m ρ c), h.2⟩)
    (Cert.Halo.run_main (F := Bits) m ρ)

/-- The kernel runs at the ideal values. -/
theorem frame_ideal : Cert.quiescent_KernelIdeal := fun m ρ _ =>
  (θ_run Cert.KernelIdeal.defs _ _).mono (fun _ h => ⟨fun c => (h.1 c (0 : Fin 2)).trans (Cert.Halo.finalA_x m ρ c), h.2⟩)
    (Cert.Halo.run_main (F := Ideal) m ρ)

/-- The reference runs at the ideal values; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.Reference.ref_run (F := Ideal) m ρ)

/-- The idealization rewrote no operation. -/
theorem preserves : Cert.preserves_Kernel_KernelIdeal := trivial

/-- From blocks of one whole array, the reference's result is the stencil of the array and each device's is its block of it. -/
theorem algebraic : Cert.algebraic_KernelIdeal_ReferenceIdeal := fun m ρ m' ρ' _ hblk =>
  ⟨Cert.Stencil.stencil (F := Ideal) (m' (((0 : Dev Cert.ReferenceIdeal.nD).tc : Thread _ Cert.ReferenceIdeal.τ).loc Cert.ReferenceIdeal.main_arg0)),
    (θ_run Cert.KernelIdeal.defs _ _).mono
      (fun _ h c => ⟨(h.1 c (1 : Fin 2)).trans (Cert.Halo.result_block m ρ _ hblk c), (h.1 c (0 : Fin 2)).trans (Cert.Halo.finalA_x m ρ c)⟩)
      (Cert.Halo.run_main (F := Ideal) m ρ),
    (θ_run Cert.ReferenceIdeal.defs _ _).mono (fun _ h => h 0) (Cert.Reference.ref_run (F := Ideal) m' ρ')⟩

theorem claim : Cert.Claim := ⟨Cert.Kernel.Gen.facts, Cert.KernelIdeal.Gen.facts, Cert.ReferenceIdeal.Gen.facts,
  frame_kernel, frame_ideal, frame_reference, preserves, algebraic⟩

end Cert.Proof

end
